-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate_inputs_KernelIdeal [hPre_finite_gate_inputs_KernelIdeal : Cert.Pre_finite_gate_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_gate_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate_inputs_ReferenceIdeal [hPre_finite_gate_inputs_ReferenceIdeal : Cert.Pre_finite_gate_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_gate_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_UncappedIdeal [hPre_finite_gate_inputs_ReferenceIdeal : Cert.Pre_finite_gate_inputs_ReferenceIdeal.Facts] (m : (ℓ : Loc Cert.UncappedIdeal.nD Cert.UncappedIdeal.τ Cert.UncappedIdeal.sig) → Buf (Elt Ideal) ℓ) : Prop :=
  ∀ c : Dev Cert.UncappedIdeal.nD,
    (Cert.Pre_finite_gate_inputs_ReferenceIdeal.fn (F := Ideal) (m ((c.tc : Thread Cert.UncappedIdeal.nD Cert.UncappedIdeal.τ).loc Cert.UncappedIdeal.main_arg0)) (m ((c.tc : Thread Cert.UncappedIdeal.nD Cert.UncappedIdeal.τ).loc Cert.UncappedIdeal.main_arg1)) (m ((c.tc : Thread Cert.UncappedIdeal.nD Cert.UncappedIdeal.τ).loc Cert.UncappedIdeal.main_arg2)) (m ((c.tc : Thread Cert.UncappedIdeal.nD Cert.UncappedIdeal.τ).loc Cert.UncappedIdeal.main_arg3))).1 = (fun _ => 1#1)
    ∧ (Cert.Pre_finite_gate_inputs_ReferenceIdeal.fn (F := Ideal) (m ((c.tc : Thread Cert.UncappedIdeal.nD Cert.UncappedIdeal.τ).loc Cert.UncappedIdeal.main_arg0)) (m ((c.tc : Thread Cert.UncappedIdeal.nD Cert.UncappedIdeal.τ).loc Cert.UncappedIdeal.main_arg1)) (m ((c.tc : Thread Cert.UncappedIdeal.nD Cert.UncappedIdeal.τ).loc Cert.UncappedIdeal.main_arg2)) (m ((c.tc : Thread Cert.UncappedIdeal.nD Cert.UncappedIdeal.τ).loc Cert.UncappedIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gate_inputs_KernelIdeal [hKernelIdeal : Cert.KernelIdeal.Facts] [hPre_finite_gate_inputs_KernelIdeal : Cert.Pre_finite_gate_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gate_inputs_ReferenceIdeal [hReferenceIdeal : Cert.ReferenceIdeal.Facts] [hPre_finite_gate_inputs_ReferenceIdeal : Cert.Pre_finite_gate_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UncappedIdeal [hUncappedIdeal : Cert.UncappedIdeal.Facts] [hPre_finite_gate_inputs_ReferenceIdeal : Cert.Pre_finite_gate_inputs_ReferenceIdeal.Facts] : Prop :=
  ∀ (m : (ℓ : Loc Cert.UncappedIdeal.nD Cert.UncappedIdeal.τ Cert.UncappedIdeal.sig) → Buf (Elt Ideal) ℓ) (g : Dev Cert.UncappedIdeal.nD → PrngReg), Pre_UncappedIdeal m →
    θ_run (Cert.UncappedIdeal.defs (F := Ideal)) (onTc (τ := Cert.UncappedIdeal.τ) (Cert.UncappedIdeal.main (F := Ideal))) ⟨m, fun _ => 0, g⟩ (fun r => (∀ c : Dev Cert.UncappedIdeal.nD,
      r.2.mem ((c.tc : Thread Cert.UncappedIdeal.nD Cert.UncappedIdeal.τ).loc Cert.UncappedIdeal.main_arg0) = m ((c.tc : Thread Cert.UncappedIdeal.nD Cert.UncappedIdeal.τ).loc Cert.UncappedIdeal.main_arg0)
      ∧ r.2.mem ((c.tc : Thread Cert.UncappedIdeal.nD Cert.UncappedIdeal.τ).loc Cert.UncappedIdeal.main_arg1) = m ((c.tc : Thread Cert.UncappedIdeal.nD Cert.UncappedIdeal.τ).loc Cert.UncappedIdeal.main_arg1)
      ∧ r.2.mem ((c.tc : Thread Cert.UncappedIdeal.nD Cert.UncappedIdeal.τ).loc Cert.UncappedIdeal.main_arg2) = m ((c.tc : Thread Cert.UncappedIdeal.nD Cert.UncappedIdeal.τ).loc Cert.UncappedIdeal.main_arg2)
      ∧ r.2.mem ((c.tc : Thread Cert.UncappedIdeal.nD Cert.UncappedIdeal.τ).loc Cert.UncappedIdeal.main_arg3) = m ((c.tc : Thread Cert.UncappedIdeal.nD Cert.UncappedIdeal.τ).loc Cert.UncappedIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_gate_inputs_KernelIdeal [hKernelIdeal : Cert.KernelIdeal.Facts] [hReferenceIdeal : Cert.ReferenceIdeal.Facts] [hPre_finite_gate_inputs_KernelIdeal : Cert.Pre_finite_gate_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate_inputs_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 4, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 1024]⟩ ⟨2, ![1024, 1024]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_UncappedIdeal_on_within_capacity_pre_finite_gate_inputs_KernelIdeal [hKernelIdeal : Cert.KernelIdeal.Facts] [hUncappedIdeal : Cert.UncappedIdeal.Facts] [hPre_finite_gate_inputs_KernelIdeal : Cert.Pre_finite_gate_inputs_KernelIdeal.Facts] [hOn_within_capacity : Cert.On_within_capacity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UncappedIdeal.nD Cert.UncappedIdeal.τ Cert.UncappedIdeal.sig) → Buf (Elt Ideal) ℓ) (g' : Dev Cert.UncappedIdeal.nD → PrngReg), Pre_KernelIdeal_finite_gate_inputs_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 4, 4] ![[0], []] c) (m' (((0 : Dev Cert.UncappedIdeal.nD).tc : Thread Cert.UncappedIdeal.nD Cert.UncappedIdeal.τ).loc Cert.UncappedIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 4, 4] ![[], [0]] c) (m' (((0 : Dev Cert.UncappedIdeal.nD).tc : Thread Cert.UncappedIdeal.nD Cert.UncappedIdeal.τ).loc Cert.UncappedIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 4, 4] ![[0], [], []] c) (m' (((0 : Dev Cert.UncappedIdeal.nD).tc : Thread Cert.UncappedIdeal.nD Cert.UncappedIdeal.τ).loc Cert.UncappedIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 4, 4] ![[0], [], []] c) (m' (((0 : Dev Cert.UncappedIdeal.nD).tc : Thread Cert.UncappedIdeal.nD Cert.UncappedIdeal.τ).loc Cert.UncappedIdeal.main_arg3))) →
    ∃ (v0 : Buf (Elt Ideal) (((0 : Dev Cert.UncappedIdeal.nD).tc : Thread Cert.UncappedIdeal.nD Cert.UncappedIdeal.τ).loc Cert.UncappedIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 1024]⟩ : Shape).Idx, (Layout.blockN ⟨2, ![512, 1024]⟩ ⟨2, ![1024, 1024]⟩ (Layout.meshBlock [2, 4, 4] ![[0], []] c) ((Cert.On_within_capacity.fn (F := Ideal) (m' (((0 : Dev Cert.UncappedIdeal.nD).tc : Thread Cert.UncappedIdeal.nD Cert.UncappedIdeal.τ).loc Cert.UncappedIdeal.main_arg0)) (m' (((0 : Dev Cert.UncappedIdeal.nD).tc : Thread Cert.UncappedIdeal.nD Cert.UncappedIdeal.τ).loc Cert.UncappedIdeal.main_arg1)) (m' (((0 : Dev Cert.UncappedIdeal.nD).tc : Thread Cert.UncappedIdeal.nD Cert.UncappedIdeal.τ).loc Cert.UncappedIdeal.main_arg2)) (m' (((0 : Dev Cert.UncappedIdeal.nD).tc : Thread Cert.UncappedIdeal.nD Cert.UncappedIdeal.τ).loc Cert.UncappedIdeal.main_arg3)))) : (⟨2, ![512, 1024]⟩ : Shape).Idx → _) i = 1#1 → r.2.mem ((c.tc : Thread Cert.KernelIdeal.nD Cert.KernelIdeal.τ).loc Cert.KernelIdeal.main_v1) i = (Layout.blockN ⟨2, ![512, 1024]⟩ ⟨2, ![1024, 1024]⟩ (Layout.meshBlock [2, 4, 4] ![[0], []] c) v0 : (⟨2, ![512, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.UncappedIdeal.defs (F := Ideal)) (onTc (τ := Cert.UncappedIdeal.τ) (Cert.UncappedIdeal.main (F := Ideal))) ⟨m', fun _ => 0, g'⟩ (fun r =>
          (∀ i : (⟨2, ![1024, 1024]⟩ : Shape).Idx, (Cert.On_within_capacity.fn (F := Ideal) (m' (((0 : Dev Cert.UncappedIdeal.nD).tc : Thread Cert.UncappedIdeal.nD Cert.UncappedIdeal.τ).loc Cert.UncappedIdeal.main_arg0)) (m' (((0 : Dev Cert.UncappedIdeal.nD).tc : Thread Cert.UncappedIdeal.nD Cert.UncappedIdeal.τ).loc Cert.UncappedIdeal.main_arg1)) (m' (((0 : Dev Cert.UncappedIdeal.nD).tc : Thread Cert.UncappedIdeal.nD Cert.UncappedIdeal.τ).loc Cert.UncappedIdeal.main_arg2)) (m' (((0 : Dev Cert.UncappedIdeal.nD).tc : Thread Cert.UncappedIdeal.nD Cert.UncappedIdeal.τ).loc Cert.UncappedIdeal.main_arg3))) i = 1#1 → r.2.mem (((0 : Dev Cert.UncappedIdeal.nD).tc : Thread Cert.UncappedIdeal.nD Cert.UncappedIdeal.τ).loc Cert.UncappedIdeal.main_v30) i = v0 i)
          ∧ r.2.mem (((0 : Dev Cert.UncappedIdeal.nD).tc : Thread Cert.UncappedIdeal.nD Cert.UncappedIdeal.τ).loc Cert.UncappedIdeal.main_arg0) = m' (((0 : Dev Cert.UncappedIdeal.nD).tc : Thread Cert.UncappedIdeal.nD Cert.UncappedIdeal.τ).loc Cert.UncappedIdeal.main_arg0)
          ∧ r.2.mem (((0 : Dev Cert.UncappedIdeal.nD).tc : Thread Cert.UncappedIdeal.nD Cert.UncappedIdeal.τ).loc Cert.UncappedIdeal.main_arg1) = m' (((0 : Dev Cert.UncappedIdeal.nD).tc : Thread Cert.UncappedIdeal.nD Cert.UncappedIdeal.τ).loc Cert.UncappedIdeal.main_arg1)
          ∧ r.2.mem (((0 : Dev Cert.UncappedIdeal.nD).tc : Thread Cert.UncappedIdeal.nD Cert.UncappedIdeal.τ).loc Cert.UncappedIdeal.main_arg2) = m' (((0 : Dev Cert.UncappedIdeal.nD).tc : Thread Cert.UncappedIdeal.nD Cert.UncappedIdeal.τ).loc Cert.UncappedIdeal.main_arg2)
          ∧ r.2.mem (((0 : Dev Cert.UncappedIdeal.nD).tc : Thread Cert.UncappedIdeal.nD Cert.UncappedIdeal.τ).loc Cert.UncappedIdeal.main_arg3) = m' (((0 : Dev Cert.UncappedIdeal.nD).tc : Thread Cert.UncappedIdeal.nD Cert.UncappedIdeal.τ).loc Cert.UncappedIdeal.main_arg3))

def Claim : Prop :=
  ∃ (hKernel : Cert.Kernel.Facts) (hKernelIdeal : Cert.KernelIdeal.Facts) (hReferenceIdeal : Cert.ReferenceIdeal.Facts) (hUncappedIdeal : Cert.UncappedIdeal.Facts) (hPre_finite_gate_inputs_KernelIdeal : Cert.Pre_finite_gate_inputs_KernelIdeal.Facts) (hPre_finite_gate_inputs_ReferenceIdeal : Cert.Pre_finite_gate_inputs_ReferenceIdeal.Facts) (hOn_within_capacity : Cert.On_within_capacity.Facts),
    quiescent_Kernel (hKernel := hKernel)
    ∧ quiescent_KernelIdeal (hKernelIdeal := hKernelIdeal)
    ∧ quiescent_KernelIdeal_pre_finite_gate_inputs_KernelIdeal (hKernelIdeal := hKernelIdeal) (hPre_finite_gate_inputs_KernelIdeal := hPre_finite_gate_inputs_KernelIdeal)
    ∧ quiescent_ReferenceIdeal (hReferenceIdeal := hReferenceIdeal)
    ∧ quiescent_ReferenceIdeal_pre_finite_gate_inputs_ReferenceIdeal (hReferenceIdeal := hReferenceIdeal) (hPre_finite_gate_inputs_ReferenceIdeal := hPre_finite_gate_inputs_ReferenceIdeal)
    ∧ quiescent_UncappedIdeal (hUncappedIdeal := hUncappedIdeal) (hPre_finite_gate_inputs_ReferenceIdeal := hPre_finite_gate_inputs_ReferenceIdeal)
    ∧ preserves_Kernel_KernelIdeal
    ∧ algebraic_KernelIdeal_ReferenceIdeal_pre_finite_gate_inputs_KernelIdeal (hKernelIdeal := hKernelIdeal) (hReferenceIdeal := hReferenceIdeal) (hPre_finite_gate_inputs_KernelIdeal := hPre_finite_gate_inputs_KernelIdeal)
    ∧ algebraic_KernelIdeal_UncappedIdeal_on_within_capacity_pre_finite_gate_inputs_KernelIdeal (hKernelIdeal := hKernelIdeal) (hUncappedIdeal := hUncappedIdeal) (hPre_finite_gate_inputs_KernelIdeal := hPre_finite_gate_inputs_KernelIdeal) (hOn_within_capacity := hOn_within_capacity)
-- ==== On_within_capacity.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S1024x2x1 : Shape := ⟨3, ![1024, 2, 1]⟩
abbrev S8 : Shape := ⟨1, ![8]⟩
abbrev S1x1x8 : Shape := ⟨3, ![1, 1, 8]⟩
abbrev S1024x2x8 : Shape := ⟨3, ![1024, 2, 8]⟩
abbrev S_ : Shape := ⟨0, ![]⟩
abbrev S1024 : Shape := ⟨1, ![1024]⟩
abbrev S1024x1 : Shape := ⟨2, ![1024, 1]⟩

class Facts : Prop where
  sliceFits_S1024x8_S1024x2 : S1024x8.Slices (fun _ => 0) S1024x2
  bcast_S1024x2_S1024x2x1_0_1 : S1024x2.BroadcastsInDim S1024x2x1 (![0, 1] : Fin 2 → Fin S1024x2x1.rank)
  bcast_S8_S1x1x8_2 : S8.BroadcastsInDim S1x1x8 (![2] : Fin 1 → Fin S1x1x8.rank)
  bcast_S1024x2x1_S1024x2x8_0_1_2 : S1024x2x1.BroadcastsInDim S1024x2x8 (![0, 1, 2] : Fin 3 → Fin S1024x2x8.rank)
  bcast_S1x1x8_S1024x2x8_0_1_2 : S1x1x8.BroadcastsInDim S1024x2x8 (![0, 1, 2] : Fin 3 → Fin S1024x2x8.rank)
  reducesTo_S1024x2x8_S1024x8_d1 : S1024x2x8.ReducesTo [1] S1024x8
  h_S_ : 0 < S_.numel
  natLt_1_32 : 1 < 32
  bcast_S_S_ : S_.BroadcastsInDim S_ (![] : Fin 0 → Fin S_.rank)
  reduceWindows_S1024x8_S1024x8_w1024s1p1023_0_w1s1p0_0 : S1024x8.ReduceWindows (![1024, 1] : Fin 2 → Nat) ![1, 1] ![1023, 0] ![0, 0] S1024x8
  bcast_S_S1024x8 : S_.BroadcastsInDim S1024x8 (![] : Fin 0 → Fin S1024x8.rank)
  reducesTo_S1024x8_S1024_d1 : S1024x8.ReducesTo [1] S1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S1024x1024_S1024x8_S1024x8_1_0_0_1_n_n_wf : DotDims.WF S1024x1024 S1024x8 S1024x8 [1] [0] [0] [1] [] []

variable [Facts]

def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def fn_cumsum_0 {F : FTy → Type} [FloatOps F] (arg0 : IVec S1024x8 32) : IVec S1024x8 32 :=
  let c : IVec S_ 32 := constantI S_ 32 0#32
  let v0 : IVec S_ 32 := broadcastInDim S_ ![] bcast_S_S_ c
  let v1 : IVec S1024x8 32 := (fun x v => Host.reduceWindow IntOp.addi ![1024, 1] ![1, 1] ![1023, 0] ![0, 0] x v reduceWindows_S1024x8_S1024x8_w1024s1p1023_0_w1s1p0_0 h_S_) arg0 v0
  v1

def fn_cumsum {F : FTy → Type} [FloatOps F] (arg0 : IVec S1024x8 32) : IVec S1024x8 32 :=
  let v0 : IVec S1024x8 32 := fn_cumsum_0 (F := F) arg0
  v0

def fn {F : FTy → Type} [FloatOps F] (main_arg0 : FVec F S1024x1024 .f32) (main_arg1 : FVec F S1024x8 .f32) (main_arg2 : FVec F S8x1024x2048 .f32) (main_arg3 : FVec F S8x2048x1024 .f32) : IVec S1024x1024 1 :=
  let main_v0 : FVec F S1024x8 .f32 := (fun l r => Host.dotGeneral dot_S1024x1024_S1024x8_S1024x8_1_0_0_1_n_n none l r) main_arg0 main_arg1
  let main_values : FVec F S1024x2 .f32 := (fun x => (Host.topK S1024x2 1 (FloatOps.cmpfTotal .gt) x sliceFits_S1024x8_S1024x2).1) main_v0
  let main_indices : IVec S1024x2 32 := (fun x => (Host.topK S1024x2 1 (FloatOps.cmpfTotal .gt) x sliceFits_S1024x8_S1024x2).2) main_v0
  let main_v1 : IVec S1024x2x1 32 := broadcastInDim S1024x2x1 ![0, 1] bcast_S1024x2_S1024x2x1_0_1 main_indices
  let main_v2 : IVec S8 32 := iotaInDim S8 32 0
  let main_v3 : IVec S1x1x8 32 := broadcastInDim S1x1x8 ![2] bcast_S8_S1x1x8_2 main_v2
  let main_v4 : IVec S1024x2x8 32 := broadcastInDim S1024x2x8 ![0, 1, 2] bcast_S1024x2x1_S1024x2x8_0_1_2 main_v1
  let main_v5 : IVec S1024x2x8 32 := broadcastInDim S1024x2x8 ![0, 1, 2] bcast_S1x1x8_S1024x2x8_0_1_2 main_v3
  let main_v6 : IVec S1024x2x8 1 := cmpi .eq main_v4 main_v5
  let main_c : IVec S_ 1 := constantI S_ 1 0#1
  let main_v7 : IVec S1024x8 1 := (fun x v => Host.reduce IntOp.ori x v reducesTo_S1024x2x8_S1024x8_d1 h_S_) main_v6 main_c
  let main_v8 : IVec S1024x8 32 := (extui 32 · natLt_1_32) main_v7
  let main_v9 : IVec S1024x8 32 := fn_cumsum (F := F) main_v8
  let main_c_0 : IVec S_ 32 := constantI S_ 32 320#32
  let main_v10 : IVec S1024x8 32 := broadcastInDim S1024x8 ![] bcast_S_S1024x8 main_c_0
  let main_v11 : IVec S1024x8 1 := cmpi .sle main_v9 main_v10
  let main_v12 : IVec S1024x8 1 := noti main_v7
  let main_v13 : IVec S1024x8 1 := ori main_v11 main_v12
  let main_c_1 : IVec S_ 1 := constantI S_ 1 1#1
  let main_v14 : IVec S1024 1 := (fun x v => Host.reduce IntOp.andi x v reducesTo_S1024x8_S1024_d1 h_S_) main_v13 main_c_1
  let main_v15 : IVec S1024x1 1 := broadcastInDim S1024x1 ![0] bcast_S1024_S1024x1_0 main_v14
  let main_v16 : IVec S1024x1024 1 := broadcastInDim S1024x1024 ![0, 1] bcast_S1024x1_S1024x1024_0_1 main_v15
  main_v16
-- ==== Pre_finite_gate_inputs_KernelIdeal.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S512x1024 .f32) (main_arg1 : FVec F S1024x4 .f32) (main_arg2 : FVec F S4x1024x2048 .f32) (main_arg3 : FVec F S4x2048x1024 .f32) : IVec S_ 1 × IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  (main_v3, main_v7)
-- ==== Pre_finite_gate_inputs_ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1024x1024 .f32) (main_arg1 : FVec F S1024x8 .f32) (main_arg2 : FVec F S8x1024x2048 .f32) (main_arg3 : FVec F S8x2048x1024 .f32) : IVec S_ 1 × IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  (main_v3, main_v7)
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S1024x1024 : Shape := ⟨2, ![1024, 1024]⟩
abbrev S2x1024x4 : Shape := ⟨3, ![2, 1024, 4]⟩
abbrev S2x1024x1024 : Shape := ⟨3, ![2, 1024, 1024]⟩
abbrev S1024x8 : Shape := ⟨2, ![1024, 8]⟩
abbrev S2x1024x2048 : Shape := ⟨3, ![2, 1024, 2048]⟩
abbrev S2x2048x1024 : Shape := ⟨3, ![2, 2048, 1024]⟩
abbrev S3 : Shape := ⟨1, ![3]⟩
abbrev S2x2 : Shape := ⟨2, ![2, 2]⟩
abbrev S_ : Shape := ⟨0, ![]⟩
abbrev S1 : Shape := ⟨1, ![1]⟩
abbrev S1x1024x4 : Shape := ⟨3, ![1, 1024, 4]⟩
abbrev S1x1 : Shape := ⟨2, ![1, 1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S512x4 : Shape := ⟨2, ![512, 4]⟩
abbrev S512x8 : Shape := ⟨2, ![512, 8]⟩
abbrev S1024 : Shape := ⟨1, ![1024]⟩
abbrev S1024x1 : Shape := ⟨2, ![1024, 1]⟩
abbrev S4x1024 : Shape := ⟨2, ![4, 1024]⟩
abbrev S320x1024 : Shape := ⟨2, ![320, 1024]⟩
abbrev S1x1024 : Shape := ⟨2, ![1, 1024]⟩
abbrev S320x2048 : Shape := ⟨2, ![320, 2048]⟩

abbrev nBuf : Space → Nat
  | .hbm => 5
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S512x1024, .f32⟩
  | .local _ .vmem, ⟨0, _⟩ => ⟨S512x1024, .f32⟩
  | .local _ .vmem, ⟨1, _⟩ => ⟨S1024x4, .f32⟩
  | .local _ .vmem, ⟨2, _⟩ => ⟨S512x1024, .f32⟩
  | .local _ .vmem, ⟨3, _⟩ => ⟨S1024x1024, .bf16⟩
  | .local _ .vmem, ⟨4, _⟩ => ⟨S2x1024x4, .f32⟩
  | .local _ .vmem, ⟨5, _⟩ => ⟨S2x1024x1024, .f32⟩
  | .local _ .vmem, ⟨6, _⟩ => ⟨S1024x8, .f32⟩
  | .local _ .vmem, ⟨7, _⟩ => ⟨S2x1024x2048, .f32⟩
  | .local _ .vmem, ⟨8, _⟩ => ⟨S2x2048x1024, .f32⟩
  | .local _ .vmem, ⟨9, _⟩ => ⟨S1024x1024, .f32⟩
  | .local _ .vmem, ⟨10, _⟩ => ⟨S512x1024, .bf16⟩
  | .local _ .vmem, ⟨11, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_5 : BitVec 32 := 16#32
  let v12 : BitVec 32 := Scalar.muli v9 c16_i32_5
  let v13 : BitVec 32 := Scalar.addi c0_i32 v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_off1 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_15 : BitVec 32 := 0#32
  let c0_i32_16 : BitVec 32 := 0#32
  ![v2.toNat, 0, 0]
def k0_dev2 (d0 : Dev nD) : Nat :=
  let c0_i32_12 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_11 : BitVec 32 := 16#32
  let v18 : BitVec 32 := Scalar.muli v9 c16_i32_11
  let v19 : BitVec 32 := Scalar.addi c0_i32_12 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v20 : BitVec 32 := Scalar.muli v5 c4_i32_13
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v22 : BitVec 32 := Scalar.muli v8 c1_i32_14
  let v23 : BitVec 32 := Scalar.addi v21 v22
  v23.toNat
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v33 : BitVec 32 := Scalar.muli v2 c512_i32
  let v34 : Index := Scalar.indexCast v33
  let c0_18 : Index := 0#32
  ![v34.toNat, 0]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_20 : BitVec 32 := 512#32
  let v39 : BitVec 32 := Scalar.muli v2 c512_i32_20
  let c0_i32_27 : BitVec 32 := 0#32
  ![v39.toNat, 0]
def k0_dev3 (d0 : Dev nD) : Nat :=
  let c0_i32_24 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_23 : BitVec 32 := 16#32
  let v40 : BitVec 32 := Scalar.muli v9 c16_i32_23
  let v41 : BitVec 32 := Scalar.addi c0_i32_24 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_25 : BitVec 32 := 4#32
  let v42 : BitVec 32 := Scalar.muli v5 c4_i32_25
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v44 : BitVec 32 := Scalar.muli v8 c1_i32_26
  let v45 : BitVec 32 := Scalar.addi v43 v44
  v45.toNat
def k0_off4 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v78 : Index := Scalar.indexCast v2
  let c0_63 : Index := 0#32
  let c0_64 : Index := 0#32
  ![v78.toNat, 0, 0]
def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_94 : BitVec 32 := 512#32
  let v121 : BitVec 32 := Scalar.muli v2 c512_i32_94
  let v122 : Index := Scalar.indexCast v121
  let c0_95 : Index := 0#32
  ![v122.toNat, 0]
def k0_off6 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_97 : BitVec 32 := 512#32
  let v127 : BitVec 32 := Scalar.muli v2 c512_i32_97
  let c0_i32_104 : BitVec 32 := 0#32
  ![v127.toNat, 0]
def k0_dev4 (d0 : Dev nD) : Nat :=
  let c0_i32_101 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_100 : BitVec 32 := 16#32
  let v128 : BitVec 32 := Scalar.muli v9 c16_i32_100
  let v129 : BitVec 32 := Scalar.addi c0_i32_101 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_102 : BitVec 32 := 4#32
  let v130 : BitVec 32 := Scalar.muli v5 c4_i32_102
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v132 : BitVec 32 := Scalar.muli v8 c1_i32_103
  let v133 : BitVec 32 := Scalar.addi v131 v132
  v133.toNat
def k0_off7 (d0 : Dev nD) : Fin 2 → Nat :=
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c512_i32_311 : BitVec 32 := 512#32
  let v395 : BitVec 32 := Scalar.muli v10 c512_i32_311
  let v396 : Index := Scalar.indexCast v395
  let c0_312 : Index := 0#32
  ![v396.toNat, 0]
def k0_dev5 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v402 : BitVec 32 := Scalar.muli v9 c16_i32_315
  let v403 : BitVec 32 := Scalar.addi c0_i32_316 v402
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v404 : BitVec 32 := Scalar.muli v5 c4_i32_317
  let v405 : BitVec 32 := Scalar.addi v403 v404
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v406 : BitVec 32 := Scalar.muli v8 c1_i32_318
  let v407 : BitVec 32 := Scalar.addi v405 v406
  v407.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S8 : Shape := ⟨1, ![8]⟩
abbrev S1x1x8 : Shape := ⟨3, ![1, 1, 8]⟩
abbrev S1024x2x8 : Shape := ⟨3, ![1024, 2, 8]⟩
abbrev S8x1024x1024 : Shape := ⟨3, ![8, 1024, 1024]⟩
abbrev S8x1024 : Shape := ⟨2, ![8, 1024]⟩
abbrev S8x1024x1 : Shape := ⟨3, ![8, 1024, 1]⟩

abbrev nBuf : Space → Nat
  | .hbm => 64
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S8x1024x2048, .f32⟩
  | .hbm, ⟨3, _⟩ => ⟨S8x2048x1024, .f32⟩
  | .hbm, ⟨4, _⟩ => ⟨S1024x8, .f32⟩
  | .hbm, ⟨5, _⟩ => ⟨S1024x2, .f32⟩
  | .hbm, ⟨6, _⟩ => ⟨S1024x2, .i32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1024x2, .f32⟩
  | .hbm, ⟨14, _⟩ => ⟨S1024x2, .f32⟩
  | .hbm, ⟨15, _⟩ => ⟨S1024x2, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x2, .f32⟩
  | .hbm, ⟨20, _⟩ => ⟨S1024x2, .f32⟩
  | .hbm, ⟨21, _⟩ => ⟨S1024x2x1, .i32⟩
  | .hbm, ⟨22, _⟩ => ⟨S8, .i32⟩
  | .hbm, ⟨23, _⟩ => ⟨S1x1x8, .i32⟩
  | .hbm, ⟨24, _⟩ => ⟨S1024x2x8, .i32⟩
  | .hbm, ⟨25, _⟩ => ⟨S1024x2x8, .i32⟩
  | .hbm, ⟨26, _⟩ => ⟨S1024x2x8, .i1⟩
  | .hbm, ⟨27, _⟩ => ⟨S_, .i1⟩
  | .hbm, ⟨28, _⟩ => ⟨S1024x8, .i1⟩
  | .hbm, ⟨29, _⟩ => ⟨S1024x2x1, .f32⟩
  | .hbm, ⟨30, _⟩ => ⟨S_, .f32⟩
  | .hbm, ⟨31, _⟩ => ⟨S_, .f32⟩
  | .hbm, ⟨32, _⟩ => ⟨S1024x2x8, .f32⟩
  | .hbm, ⟨33, _⟩ => ⟨S1024x2x8, .f32⟩
  | .hbm, ⟨34, _⟩ => ⟨S1024x2x8, .f32⟩
  | .hbm, ⟨35, _⟩ => ⟨S_, .f32⟩
  | .hbm, ⟨36, _⟩ => ⟨S1024x8, .f32⟩
  | .hbm, ⟨37, _⟩ => ⟨S1024x8, .i32⟩
  | .hbm, ⟨38, _⟩ => ⟨S_, .i32⟩
  | .hbm, ⟨39, _⟩ => ⟨S_, .i32⟩
  | .hbm, ⟨40, _⟩ => ⟨S1024x8, .i32⟩
  | .hbm, ⟨41, _⟩ => ⟨S_, .i32⟩
  | .hbm, ⟨42, _⟩ => ⟨S1024x8, .i32⟩
  | .hbm, ⟨43, _⟩ => ⟨S1024x8, .i1⟩
  | .hbm, ⟨44, _⟩ => ⟨S1024x8, .i1⟩
  | .hbm, ⟨45, _⟩ => ⟨S8x2048x1024, .f32⟩
  | .hbm, ⟨46, _⟩ => ⟨S8x1024x2048, .f32⟩
  | .hbm, ⟨47, _⟩ => ⟨S_, .f32⟩
  | .hbm, ⟨48, _⟩ => ⟨S8x1024x2048, .f32⟩
  | .hbm, ⟨49, _⟩ => ⟨S8x1024x2048, .f32⟩
  | .hbm, ⟨50, _⟩ => ⟨S8x1024x1024, .f32⟩
  | .hbm, ⟨51, _⟩ => ⟨S8x1024, .f32⟩
  | .hbm, ⟨52, _⟩ => ⟨S8x1024x1, .f32⟩
  | .hbm, ⟨53, _⟩ => ⟨S8x1024x1024, .f32⟩
  | .hbm, ⟨54, _⟩ => ⟨S8x1024x1024, .f32⟩
  | .hbm, ⟨55, _⟩ => ⟨S8x1024, .i1⟩
  | .hbm, ⟨56, _⟩ => ⟨S8x1024x1, .i1⟩
  | .hbm, ⟨57, _⟩ => ⟨S_, .f32⟩
  | .hbm, ⟨58, _⟩ => ⟨S_, .f32⟩
  | .hbm, ⟨59, _⟩ => ⟨S8x1024x1024, .i1⟩
  | .hbm, ⟨60, _⟩ => ⟨S8x1024x1024, .f32⟩
  | .hbm, ⟨61, _⟩ => ⟨S8x1024x1024, .f32⟩
  | .hbm, ⟨62, _⟩ => ⟨S_, .f32⟩
  | .hbm, ⟨63, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_call1_call0_c : Ref sig .tc := ⟨.hbm, 38, rfl⟩
abbrev main_call1_call0_v0 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== UncappedIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S8 : Shape := ⟨1, ![8]⟩
abbrev S1x1x8 : Shape := ⟨3, ![1, 1, 8]⟩
abbrev S1024x2x8 : Shape := ⟨3, ![1024, 2, 8]⟩
abbrev S8x1024x1024 : Shape := ⟨3, ![8, 1024, 1024]⟩
abbrev S8x1024 : Shape := ⟨2, ![8, 1024]⟩
abbrev S8x1024x1 : Shape := ⟨3, ![8, 1024, 1]⟩

abbrev nBuf : Space → Nat
  | .hbm => 47
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S8x1024x2048, .f32⟩
  | .hbm, ⟨3, _⟩ => ⟨S8x2048x1024, .f32⟩
  | .hbm, ⟨4, _⟩ => ⟨S1024x8, .f32⟩
  | .hbm, ⟨5, _⟩ => ⟨S1024x2, .f32⟩
  | .hbm, ⟨6, _⟩ => ⟨S1024x2, .i32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1024x2, .f32⟩
  | .hbm, ⟨14, _⟩ => ⟨S1024x2, .f32⟩
  | .hbm, ⟨15, _⟩ => ⟨S1024x2, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x2, .f32⟩
  | .hbm, ⟨20, _⟩ => ⟨S1024x2, .f32⟩
  | .hbm, ⟨21, _⟩ => ⟨S1024x2x1, .i32⟩
  | .hbm, ⟨22, _⟩ => ⟨S8, .i32⟩
  | .hbm, ⟨23, _⟩ => ⟨S1x1x8, .i32⟩
  | .hbm, ⟨24, _⟩ => ⟨S1024x2x8, .i32⟩
  | .hbm, ⟨25, _⟩ => ⟨S1024x2x8, .i32⟩
  | .hbm, ⟨26, _⟩ => ⟨S1024x2x8, .i1⟩
  | .hbm, ⟨27, _⟩ => ⟨S1024x2x1, .f32⟩
  | .hbm, ⟨28, _⟩ => ⟨S_, .f32⟩
  | .hbm, ⟨29, _⟩ => ⟨S_, .f32⟩
  | .hbm, ⟨30, _⟩ => ⟨S1024x2x8, .f32⟩
  | .hbm, ⟨31, _⟩ => ⟨S1024x2x8, .f32⟩
  | .hbm, ⟨32, _⟩ => ⟨S1024x2x8, .f32⟩
  | .hbm, ⟨33, _⟩ => ⟨S_, .f32⟩
  | .hbm, ⟨34, _⟩ => ⟨S1024x8, .f32⟩
  | .hbm, ⟨35, _⟩ => ⟨S8x2048x1024, .f32⟩
  | .hbm, ⟨36, _⟩ => ⟨S8x1024x2048, .f32⟩
  | .hbm, ⟨37, _⟩ => ⟨S_, .f32⟩
  | .hbm, ⟨38, _⟩ => ⟨S8x1024x2048, .f32⟩
  | .hbm, ⟨39, _⟩ => ⟨S8x1024x2048, .f32⟩
  | .hbm, ⟨40, _⟩ => ⟨S8x1024x1024, .f32⟩
  | .hbm, ⟨41, _⟩ => ⟨S8x1024, .f32⟩
  | .hbm, ⟨42, _⟩ => ⟨S8x1024x1, .f32⟩
  | .hbm, ⟨43, _⟩ => ⟨S8x1024x1024, .f32⟩
  | .hbm, ⟨44, _⟩ => ⟨S8x1024x1024, .f32⟩
  | .hbm, ⟨45, _⟩ => ⟨S_, .f32⟩
  | .hbm, ⟨46, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Protocol.lean ====
/-
  THE PROTOCOL BETWEEN THE TWO DEVICES OF A PAIR.

  The mesh is 2 x 4 x 4; a device talks only to its peer, the device with the same last two coordinates and the other
  first one. For each device there are nine cells that a partner pays, each with one duty in round 0:

    cell 0        the barrier semaphore: one unit, by the peer's signal. It hands over the peer's windows that this
                  device will write: its half of the token rows, of the router columns, of the gate rows, and the
                  combine buffer;
    cells 1 - 4   the send semaphores of the four remote copies (token rows, router columns, gate rows, combine):
                  paid by the device's own copy, handing its source back;
    cells 5 - 8   the receive semaphores of the same four: paid by the peer's copy, handing over this device's
                  window with what landed in it.

  The order in which a device pays its peer: barrier, router columns, token rows, gate rows, combine.
  The four semaphores of the weight copies are local and no partner touches them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.ValueIdxCore
public import Idealize.ShloMosaic.Lib.Tactic

@[expose] public section

noncomputable section

namespace Cert.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline's rounds, the pair's rounds, the counters of the local copies -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL

/-- The pair's rounds sit in the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

/-- The memory at launch. -/
def s₀ : MemSt nD τ sig (Elt F) := ⟨m, fun _ => 0, ρ⟩

/-! ## The pair -/

set_option backward.proofsInPublic true in
/-- The other device of the pair. -/
def peer (c : Dev nD) : Dev nD := ⟨(c.val + 16) % 32, Nat.mod_lt _ (by decide)⟩
set_option backward.proofsInPublic true in
/-- The pair's device with first coordinate 0, -/
def lo (c : Dev nD) : Dev nD := ⟨c.val % 16, (Nat.mod_lt _ (by decide : 0 < 16)).trans (by decide)⟩
set_option backward.proofsInPublic true in
/-- and the one with first coordinate 1. -/
def hi (c : Dev nD) : Dev nD := ⟨c.val % 16 + 16, by have := Nat.mod_lt c.val (by decide : 0 < 16); show _ < 32; omega⟩

theorem peer_peer (c : Dev nD) : peer (peer c) = c := by revert c; decide
theorem lo_peer (c : Dev nD) : lo (peer c) = lo c := by revert c; decide
theorem hi_peer (c : Dev nD) : hi (peer c) = hi c := by revert c; decide
theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel
theorem dev3_eq (c : Dev nD) : (⟨k0_dev3 c, k0_dev3_lt c⟩ : Dev nD) = peer c := by revert c; decide +kernel
theorem dev4_eq (c : Dev nD) : (⟨k0_dev4 c, k0_dev4_lt c⟩ : Dev nD) = peer c := by revert c; decide +kernel
theorem dev5_eq (c : Dev nD) : (⟨k0_dev5 c, k0_dev5_lt c⟩ : Dev nD) = peer c := by revert c; decide +kernel

/-- A device is its pair's `lo` or its `hi`, with its first coordinate telling which. -/
theorem lo_or_hi (c : Dev nD) : (c.val / 16 = 0 ∧ lo c = c ∧ hi c = peer c) ∨ (c.val / 16 = 1 ∧ lo c = peer c ∧ hi c = c) := by
  revert c; decide

/-! ## The buffers and the windows -/

abbrev xStg : Memref sig .tc .vmem S512x1024 .f32 := Memref.whole cc0_stg0_0
abbrev rStg : Memref sig .tc .vmem S1024x4 .f32 := Memref.whole cc0_stg1_0
abbrev oStg : Memref sig .tc .vmem S512x1024 .f32 := Memref.whole cc0_stg2_0
abbrev w1H : Memref sig .tc .hbm S4x1024x2048 .f32 := Memref.whole main_arg2
abbrev w2H : Memref sig .tc .hbm S4x2048x1024 .f32 := Memref.whole main_arg3
abbrev xfM : Memref sig .tc .vmem S1024x1024 .bf16 := Memref.whole cc0_scratch0
abbrev rsM : Memref sig .tc .vmem S2x1024x4 .f32 := Memref.whole cc0_scratch1
abbrev trM : Memref sig .tc .vmem S2x1024x1024 .f32 := Memref.whole cc0_scratch2
abbrev gM : Memref sig .tc .vmem S1024x8 .f32 := Memref.whole cc0_scratch3
abbrev w1M : Memref sig .tc .vmem S2x1024x2048 .f32 := Memref.whole cc0_scratch4
abbrev w2M : Memref sig .tc .vmem S2x2048x1024 .f32 := Memref.whole cc0_scratch5
abbrev ofM : Memref sig .tc .vmem S1024x1024 .f32 := Memref.whole cc0_scratch6
abbrev sbM : Memref sig .tc .vmem S512x1024 .bf16 := Memref.whole cc0_scratch7
abbrev cmM : Memref sig .tc .vmem S512x1024 .bf16 := Memref.whole cc0_scratch8

/-- Device `c`'s half of the token rows, -/
abbrev winX (c : Dev nD) : Memref sig .tc .vmem S512x1024 .bf16 :=
  xfM.slice (Rect.unit (s := S1024x1024) (k0_off3 c) S512x1024.size (k0_off3_inb c)) (fun _ => rfl)
/-- its slot of the router columns, as a block of the buffer -/
abbrev slotR (c : Dev nD) : Memref sig .tc .vmem S1x1024x4 .f32 :=
  rsM.slice (Rect.unit (s := S2x1024x4) (k0_off1 c) S1x1024x4.size (k0_off1_inb c)) (fun _ => rfl)
/-- and with the unit axis dropped, -/
abbrev winR (c : Dev nD) : Memref sig .tc .vmem S1024x4 .f32 := (slotR c).squeeze S1024x4 squeezes_S1x1024x4_S1024x4
/-- and its half of the gate rows. -/
abbrev winG (c : Dev nD) : Memref sig .tc .vmem S512x8 .f32 :=
  gM.slice (Rect.unit (s := S1024x8) (k0_off6 c) S512x8.size (k0_off6_inb c)) (fun _ => rfl)

/-! ## The cells -/

abbrev barS : Sem sig := (SemArray.scalar (sig.barrier 0 rfl) : Sems sig S_).sem
abbrev sndX : DmaSem sig := ((cc0_scratch9.slice (Rect.unit (s := S3) ![0] S1.size inb_S3_S1_0)).squeeze S_ squeezes_S1_S_).sem
abbrev sndR : DmaSem sig := ((cc0_scratch9.slice (Rect.unit (s := S3) ![1] S1.size inb_S3_S1_1)).squeeze S_ squeezes_S1_S_).sem
abbrev sndG : DmaSem sig := ((cc0_scratch9.slice (Rect.unit (s := S3) ![2] S1.size inb_S3_S1_2)).squeeze S_ squeezes_S1_S_).sem
abbrev sndC : DmaSem sig := cc0_scratch12.sem
abbrev rcvX : DmaSem sig := ((cc0_scratch10.slice (Rect.unit (s := S3) ![0] S1.size inb_S3_S1_0)).squeeze S_ squeezes_S1_S_).sem
abbrev rcvR : DmaSem sig := ((cc0_scratch10.slice (Rect.unit (s := S3) ![1] S1.size inb_S3_S1_1)).squeeze S_ squeezes_S1_S_).sem
abbrev rcvG : DmaSem sig := ((cc0_scratch10.slice (Rect.unit (s := S3) ![2] S1.size inb_S3_S1_2)).squeeze S_ squeezes_S1_S_).sem
abbrev rcvC : DmaSem sig := cc0_scratch13.sem
abbrev wS00 : DmaSem sig := ((cc0_scratch11.slice (Rect.unit (s := S2x2) ![0, 0] S1x1.size inb_S2x2_S1x1_0_0)).squeeze S_ squeezes_S1x1_S_).sem
abbrev wS01 : DmaSem sig := ((cc0_scratch11.slice (Rect.unit (s := S2x2) ![0, 1] S1x1.size inb_S2x2_S1x1_0_1)).squeeze S_ squeezes_S1x1_S_).sem
abbrev wS10 : DmaSem sig := ((cc0_scratch11.slice (Rect.unit (s := S2x2) ![1, 0] S1x1.size inb_S2x2_S1x1_1_0)).squeeze S_ squeezes_S1x1_S_).sem
abbrev wS11 : DmaSem sig := ((cc0_scratch11.slice (Rect.unit (s := S2x2) ![1, 1] S1x1.size inb_S2x2_S1x1_1_1)).squeeze S_ squeezes_S1x1_S_).sem

/-- The nine cells' semaphores. -/
def csem : Fin 9 → SemLoc sig
  | 0 => .reg barS
  | 1 => .dma sndX | 2 => .dma sndR | 3 => .dma sndG | 4 => .dma sndC
  | 5 => .dma rcvX | 6 => .dma rcvR | 7 => .dma rcvG | 8 => .dma rcvC

theorem csem_injective : Function.Injective csem := by decide

/-- Cell `k` of device `c`. -/
abbrev kcell (ck : Dev nD × Fin 9) : GSem nD τ sig := ((ck.1 : Thread nD τ), csem ck.2)

theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which of the nine a semaphore is. -/
def cellIx (sm : SemLoc sig) : Option (Fin 9) := (List.finRange 9).find? fun k => decide (csem k = sm)

theorem cellIx_csem (k : Fin 9) : cellIx (csem k) = some k := by revert k; decide

/-- Who pays cell `k` of a device: the device itself a send cell, its peer every other. -/
def payer (c : Dev nD) (k : Fin 9) : Dev nD := if k ∈ ({1, 2, 3, 4} : Finset (Fin 9)) then c else peer c

theorem payer_payer (c : Dev nD) (k : Fin 9) : payer (payer c k) k = c := by
  unfold payer; split
  · rfl
  · exact peer_peer c

/-! ## The amounts -/

abbrev NX : ℕ := (winX 0).view.dmaCredit
abbrev NR : ℕ := (winR 0).view.dmaCredit
abbrev NG : ℕ := (winG 0).view.dmaCredit
abbrev NC : ℕ := (cmM : Memref sig .tc .vmem S512x1024 .bf16).view.dmaCredit

/-- What cell `k`'s one duty pays. -/
def amt : Fin 9 → ℕ
  | 0 => 1
  | 1 => NX | 2 => NR | 3 => NG | 4 => NC
  | 5 => NX | 6 => NR | 7 => NG | 8 => NC

theorem amt_pos (k : Fin 9) : 0 < amt k := by
  fin_cases k
  · exact Nat.one_pos
  all_goals exact View.dmaCredit_pos _ (by decide)

/-! ## The contents -/

/-- Two blocks of 512 rows, one above the other. -/
def rows {n : ℕ} {α : Type} (a b : (⟨2, ![512, n]⟩ : Shape).Idx → α) : (⟨2, ![1024, n]⟩ : Shape).Idx → α :=
  fun i => if h : (i 0 : ℕ) < 512 then a (ix2 ⟨i 0, h⟩ (i 1))
    else b (ix2 ⟨(i 0 : ℕ) - 512, by have : (i 0 : ℕ) < 1024 := (i 0).isLt; omega⟩ (i 1))

/-- Device `c`'s token rows and its router columns, as staged. -/
def xAt (c : Dev nD) : Vec F S512x1024 .f32 := m ((c : Thread nD τ).loc main_arg0)
def rAt (c : Dev nD) : Vec F S1024x4 .f32 := m ((c : Thread nD τ).loc main_arg1)

/-- The token rows that a device sends: its own in the copies' format. -/
def xbAt (c : Dev nD) : Vec F S512x1024 .bf16 := k0_pay2 (xAt m c)
/-- All the pair's token rows. -/
def xfAt (c : Dev nD) : Vec F S1024x1024 .bf16 := rows (xbAt m (lo c)) (xbAt m (hi c))
/-- The router columns of slot `j`: those of the pair's device with first coordinate `j`. -/
def rslot (c : Dev nD) (j : ℕ) : Vec F S1x1024x4 .f32 := k0_pay3 (rAt m (if j = 0 then lo c else hi c))
/-- All the pair's router columns. -/
def rsAt (c : Dev nD) : Vec F S2x1024x4 .f32 := fun i => rslot m c (i 0) (ix3 0 (i 1) (i 2))
/-- The gates of a device's own tokens, -/
def gbAt (c : Dev nD) : Vec F S512x8 .f32 := k0_pay8 (k0_pay7 (xAt m c) (rslot m c 0) (xAt m c) (rslot m c 1))
/-- and of all the pair's. -/
def gAt (c : Dev nD) : Vec F S1024x8 .f32 := rows (gbAt m (lo c)) (gbAt m (hi c))

/-- Expert `e`'s first weight block on device `c`, as a slot of the buffer it is copied to; its second. -/
def w1At (c : Dev nD) (e : Fin 4) : Vec F S1x1024x2048 .f32 := fun i => (m ((c : Thread nD τ).loc main_arg2) : Vec F S4x1024x2048 .f32) (ix3 e (i 1) (i 2))
def w2At (c : Dev nD) (e : Fin 4) : Vec F S1x2048x1024 .f32 := fun i => (m ((c : Thread nD τ).loc main_arg3) : Vec F S4x2048x1024 .f32) (ix3 e (i 1) (i 2))

/-- The first coordinate of a device, as the kernel computes it. -/
def ixw (c : Dev nD) : BitVec 32 := Scalar.remsi (Scalar.divsi (Dev.word c) 16#32) 2#32

/-- The routing of all the pair's tokens to device `c`'s four experts: the combine weights, -/
def cwAt (c : Dev nD) : FVec F S4x1024 .f32 :=
  k0_pay15 (ixw c) (k0_pay9 (gAt m c)) (k0_pay10 (gAt m c)) (k0_pay12 (gAt m c)) (k0_pay13 (gAt m c)) (k0_pay6 k0_pay5)
/-- the running counts, -/
def cntAt (c : Dev nD) : FVec F S4x1024 .f32 :=
  k0_pay17 (ixw c) (k0_pay9 (gAt m c)) (k0_pay10 (gAt m c)) (k0_pay12 (gAt m c)) (k0_pay13 (gAt m c)) (k0_pay6 k0_pay5) k0_pay4
/-- and which token is routed to which expert. -/
def hitAt (c : Dev nD) : IVec S4x1024 1 :=
  k0_pay18 (ixw c) (k0_pay9 (gAt m c)) (k0_pay10 (gAt m c)) (k0_pay12 (gAt m c)) (k0_pay13 (gAt m c)) (k0_pay6 k0_pay5)

/-- The slot numbers and the row of slot numbers they are compared with. -/
def posAt (c : Dev nD) : IVec S4x1024 32 := k0_pay19 (cntAt m c) (hitAt m c)
def lane : IVec S320x1024 32 := iota .tc S320x1024 32 [0] iota_S320x1024_d0_w32

/-- The partial outputs after one, two and three experts, and after all four. -/
def o1At (c : Dev nD) : FVec F S1024x1024 .f32 :=
  k0_pay25 k0_pay20 (k0_pay22 (cwAt m c) (cntAt m c) (hitAt m c)) (k0_pay23 (cntAt m c) (hitAt m c) (xfAt m c)) (k0_pay24 (w1At m c 0))
    (constant S320x2048 .f32 0x00000000#32) (w2At m c 0)
def o2At (c : Dev nD) : FVec F S1024x1024 .f32 :=
  k0_pay26 (cwAt m c) (posAt m c) lane (o1At m c) (xfAt m c) (w1At m c 1) (w2At m c 1)
def o3At (c : Dev nD) : FVec F S1024x1024 .f32 :=
  k0_pay30 (o2At m c) (k0_pay28 (cwAt m c) (posAt m c) lane) (k0_pay29 (posAt m c) lane) (xfAt m c) (w1At m c 2) (w2At m c 2)
def ofAt (c : Dev nD) : FVec F S1024x1024 .f32 :=
  k0_pay33 (o3At m c) (k0_pay31 (posAt m c) lane) (k0_pay32 (cwAt m c) (posAt m c) lane) (xfAt m c) (w1At m c 3) (w2At m c 3)

/-- The half of the partial outputs that a device sends to its peer, in the copies' format; the half it keeps; its result. -/
def sbAt (c : Dev nD) : Vec F S512x1024 .bf16 :=
  k0_pay34 ((ofM : Memref sig .tc .vmem S1024x1024 .f32).view.readAt (Elt F) (Rect.unit (s := S1024x1024) (k0_off7 c) S512x1024.size (k0_off7_inb c)).toLoadRect (ofAt m c))
def keepAt (c : Dev nD) : Vec F S512x1024 .f32 :=
  (ofM : Memref sig .tc .vmem S1024x1024 .f32).view.readAt (Elt F) (Rect.unit (s := S1024x1024) (k0_off2 c) S512x1024.size (k0_off2_inb c)).toLoadRect (ofAt m c)
def outAt (c : Dev nD) : Vec F S512x1024 .f32 := k0_pay1 (keepAt m c) (sbAt m (peer c))

/-! ## The schedule -/

/-- Window `d` of the token rows at device `c`, whatever it holds; and so on. -/
def anyX (c d : Dev nD) : sProp 𝕄 := iprop(∃ f, (winX d).view.loc (c : Thread nD τ) ↦[(winX d).view.set]{fullShare} f)
def anyR (c d : Dev nD) : sProp 𝕄 := iprop(∃ f, (winR d).view.loc (c : Thread nD τ) ↦[(winR d).view.set]{fullShare} f)
def anyG (c d : Dev nD) : sProp 𝕄 := iprop(∃ f, (winG d).view.loc (c : Thread nD τ) ↦[(winG d).view.set]{fullShare} f)
def anyC (c : Dev nD) : sProp 𝕄 := iprop(∃ f, (cmM : Memref sig .tc .vmem S512x1024 .bf16).view.loc (c : Thread nD τ) ↦[(cmM : Memref sig .tc .vmem S512x1024 .bf16).view.set]{fullShare} f)
instance anyX_storable (c d : Dev nD) : BI.Storable (upEmb : UEmb _ 𝕄) (anyX (F := F) c d) := by unfold anyX; infer_instance
instance anyR_storable (c d : Dev nD) : BI.Storable (upEmb : UEmb _ 𝕄) (anyR (F := F) c d) := by unfold anyR; infer_instance
instance anyG_storable (c d : Dev nD) : BI.Storable (upEmb : UEmb _ 𝕄) (anyG (F := F) c d) := by unfold anyG; infer_instance
instance anyC_storable (c : Dev nD) : BI.Storable (upEmb : UEmb _ 𝕄) (anyC (F := F) c) := by unfold anyC; infer_instance

/-- What the peer's signal hands `c`: the windows at the peer that `c` will write. -/
def payBar (c : Dev nD) : sProp 𝕄 :=
  iprop(anyX (peer c) c ∗ anyR (peer c) c ∗ anyG (peer c) c ∗ anyC (peer c))

/-- Window `d` of the token rows at device `c`, holding the pair's rows; and so on. -/
def ptX (c d : Dev nD) : sProp 𝕄 := (winX d).view.loc (c : Thread nD τ) ↦[(winX d).view.set]{fullShare} (xfAt m c : Buf (Elt F) ((winX d).view.loc (c : Thread nD τ)))
def ptR (c d : Dev nD) : sProp 𝕄 := (winR d).view.loc (c : Thread nD τ) ↦[(winR d).view.set]{fullShare} (rsAt m c : Buf (Elt F) ((winR d).view.loc (c : Thread nD τ)))
def ptG (c d : Dev nD) : sProp 𝕄 := (winG d).view.loc (c : Thread nD τ) ↦[(winG d).view.set]{fullShare} (gAt m c : Buf (Elt F) ((winG d).view.loc (c : Thread nD τ)))
/-- The router staging buffer at half the share: the other half stays with the device, which reads it meanwhile. -/
def ptRs (c : Dev nD) : sProp 𝕄 :=
  (rStg : Memref sig .tc .vmem S1024x4 .f32).view.loc (c : Thread nD τ) ↦[(rStg : Memref sig .tc .vmem S1024x4 .f32).view.set]{fullShare.left} (rAt m c : Buf (Elt F) ((rStg : Memref sig .tc .vmem S1024x4 .f32).view.loc (c : Thread nD τ)))
def ptSb (c : Dev nD) : sProp 𝕄 :=
  (sbM : Memref sig .tc .vmem S512x1024 .bf16).view.loc (c : Thread nD τ) ↦[(sbM : Memref sig .tc .vmem S512x1024 .bf16).view.set]{fullShare} (sbAt m c : Buf (Elt F) ((sbM : Memref sig .tc .vmem S512x1024 .bf16).view.loc (c : Thread nD τ)))
def ptCm (c : Dev nD) : sProp 𝕄 :=
  (cmM : Memref sig .tc .vmem S512x1024 .bf16).view.loc (c : Thread nD τ) ↦[(cmM : Memref sig .tc .vmem S512x1024 .bf16).view.set]{fullShare} (sbAt m (peer c) : Buf (Elt F) ((cmM : Memref sig .tc .vmem S512x1024 .bf16).view.loc (c : Thread nD τ)))

/-- What cell `k`'s duty hands device `c`. -/
def pay (c : Dev nD) : Fin 9 → sProp 𝕄
  | 0 => payBar c
  | 1 => ptX m c c | 2 => ptRs m c | 3 => ptG m c c | 4 => ptSb m c
  | 5 => ptX m c (peer c) | 6 => ptR m c (peer c) | 7 => ptG m c (peer c) | 8 => ptCm m c

instance pay_storable (c : Dev nD) (k : Fin 9) : BI.Storable (upEmb : UEmb _ 𝕄) (pay m c k) := by
  fin_cases k
  · show BI.Storable upEmb (payBar c); unfold payBar; infer_instance
  · show BI.Storable upEmb (ptX m c c); unfold ptX; infer_instance
  · show BI.Storable upEmb (ptRs m c); unfold ptRs; infer_instance
  · show BI.Storable upEmb (ptG m c c); unfold ptG; infer_instance
  · show BI.Storable upEmb (ptSb m c); unfold ptSb; infer_instance
  · show BI.Storable upEmb (ptX m c (peer c)); unfold ptX; infer_instance
  · show BI.Storable upEmb (ptR m c (peer c)); unfold ptR; infer_instance
  · show BI.Storable upEmb (ptG m c (peer c)); unfold ptG; infer_instance
  · show BI.Storable upEmb (ptCm m c); unfold ptCm; infer_instance

/-- One round, one duty a cell. -/
def rd : Rounds.Schedule (GSem nD τ sig) Unit 𝕄 where
  duties g r := if r = 0 ∧ g.1.2 = .tc ∧ (cellIx g.2).isSome then {()} else ∅
  unitless _ := False
  amount g _ _ := match cellIx g.2 with | some k => amt k | none => 1
  payload g _ _ := match cellIx g.2 with | some k => pay m g.1.1 k | none => iprop(emp)
  amount_pos g _ _ _ := by cases cellIx g.2 with | none => exact Nat.one_pos | some k => exact amt_pos k

instance rd_payload_storable (g : GSem nD τ sig) (r : ℕ) (d : Unit) : BI.Storable (upEmb : UEmb _ 𝕄) ((rd (F := F) m).payload g r d) := by
  show BI.Storable upEmb (match cellIx g.2 with | some k => pay m g.1.1 k | none => iprop(emp))
  split <;> infer_instance

theorem duties_cell (c : Dev nD) (k : Fin 9) : (rd (F := F) m).duties (kcell (c, k)) 0 = {()} := by
  dsimp only [rd]; rw [cellIx_csem]; exact if_pos ⟨rfl, rfl, rfl⟩
theorem duties_later (g : GSem nD τ sig) : ∀ r, 1 ≤ r → (rd (F := F) m).duties g r = ∅ :=
  fun r hr => by dsimp only [rd]; exact if_neg fun h => by omega
theorem amount_cell (c : Dev nD) (k : Fin 9) (d : Unit) : (rd (F := F) m).amount (kcell (c, k)) 0 d = amt k := by
  dsimp only [rd]; rw [cellIx_csem]
theorem payload_cell (c : Dev nD) (k : Fin 9) (d : Unit) : (rd (F := F) m).payload (kcell (c, k)) 0 d = pay m c k := by
  dsimp only [rd]; rw [cellIx_csem]
theorem expect_cell (c : Dev nD) (k : Fin 9) : (rd (F := F) m).expect (kcell (c, k)) 0 = amt k := by
  unfold Schedule.expect Schedule.amountOf; rw [duties_cell, Finset.sum_singleton, amount_cell]
theorem rest_cell (c : Dev nD) (k : Fin 9) :
    bigSep ((rd (F := F) m).duties (kcell (c, k)) 0 \ ∅) (fun d => (rd (F := F) m).payload (kcell (c, k)) 0 d) = pay m c k := by
  rw [Finset.sdiff_empty, duties_cell, bigSep_singleton, payload_cell]

/-! ## What a device owes, and the levels -/

/-- Owed to the peer's cell `k`. -/
abbrev owed (c : Dev nD) (k : Fin 9) : CellTallies nD τ sig Unit := tallyAt (kcell (peer c, k)) () (amt k)

/-- What is still owed when only the combine copy remains, when the gate rows remain too, and so on back to the launch. -/
def O3 (c : Dev nD) : CellTallies nD τ sig Unit := owed c 8
def O2 (c : Dev nD) : CellTallies nD τ sig Unit := O3 c + owed c 7
def Ox (c : Dev nD) : CellTallies nD τ sig Unit := O2 c + owed c 5
def O1 (c : Dev nD) : CellTallies nD τ sig Unit := Ox c + owed c 6
def O₀ (c : Dev nD) : CellTallies nD τ sig Unit := O1 c + owed c 0

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a cell: barrier 1, token rows and router columns 2, gate rows 3, combine 4, every other semaphore 0. -/
def lvk : Fin 9 → ℕ := ![1, 0, 0, 0, 0, 2, 2, 3, 4]
def lvs (sm : SemLoc sig) : ℕ := match cellIx sm with | some k => lvk k | none => 0
def lv (g : GSem nD τ sig) (_ : Unit) : ℕ := lvs g.2

theorem lv_cell (c : Dev nD) (k : Fin 9) : lv (kcell (c, k)) () = lvk k := by unfold lv lvs; rw [cellIx_csem]

/-- Waiting on `sm` is allowed while everything owed lies above it. -/
theorem mayWait (c : Dev nD) (sm : SemLoc sig) (O : CellTallies nD τ sig Unit)
    (h : ∀ g u, 0 < O g u → ∃ k, g = kcell (peer c, k) ∧ lvs sm < lvk k) :
    (levAts L lv : sProp 𝕄) ⊢ MayWait (c : Thread nD τ) sm () O :=
  MayOwe.of_cut (L := L) (lev := lv) (lvs sm) (fun p hp => by rw [Finset.mem_singleton.mp hp, L_tc]; exact Finset.mem_singleton_self _)
    (fun g u hg => by obtain ⟨k, rfl, -⟩ := h g u hg; rw [L_tc]; exact Finset.mem_singleton_self _)
    (fun p hp => by rw [Finset.mem_singleton.mp hp]; exact le_refl _)
    (fun g u hg => by obtain ⟨k, rfl, hk⟩ := h g u hg; rw [lv_cell]; exact hk)

theorem owed_pos {c : Dev nD} {k : Fin 9} {g : GSem nD τ sig} {u : Unit} (h : 0 < owed c k g u) : g = kcell (peer c, k) := by
  by_contra hn
  rw [owed, tallyAt_apply, if_neg (fun h' => hn h'.1)] at h
  exact Nat.lt_irrefl 0 h

theorem O3_pos {c : Dev nD} {n : ℕ} (hn : n < 4) (g : GSem nD τ sig) (u : Unit) (h : 0 < O3 c g u) : ∃ k, g = kcell (peer c, k) ∧ n < lvk k :=
  ⟨8, owed_pos h, hn⟩
theorem add_pos_of {A B : CellTallies nD τ sig Unit} {g : GSem nD τ sig} {u : Unit} (h : 0 < (A + B) g u) : 0 < A g u ∨ 0 < B g u := by
  rw [Pi.add_apply, Finsupp.add_apply] at h; omega
theorem O2_pos {c : Dev nD} {n : ℕ} (hn : n < 3) (g : GSem nD τ sig) (u : Unit) (h : 0 < O2 c g u) : ∃ k, g = kcell (peer c, k) ∧ n < lvk k :=
  (add_pos_of h).elim (O3_pos (by omega) g u) fun h => ⟨7, owed_pos h, hn⟩
theorem Ox_pos {c : Dev nD} {n : ℕ} (hn : n < 2) (g : GSem nD τ sig) (u : Unit) (h : 0 < Ox c g u) : ∃ k, g = kcell (peer c, k) ∧ n < lvk k :=
  (add_pos_of h).elim (O2_pos (by omega) g u) fun h => ⟨5, owed_pos h, hn⟩
theorem O1_pos {c : Dev nD} {n : ℕ} (hn : n < 2) (g : GSem nD τ sig) (u : Unit) (h : 0 < O1 c g u) : ∃ k, g = kcell (peer c, k) ∧ n < lvk k :=
  (add_pos_of h).elim (Ox_pos hn g u) fun h => ⟨6, owed_pos h, hn⟩
theorem O₀_pos {c : Dev nD} {n : ℕ} (hn : n < 1) (g : GSem nD τ sig) (u : Unit) (h : 0 < O₀ c g u) : ∃ k, g = kcell (peer c, k) ∧ n < lvk k :=
  (add_pos_of h).elim (O1_pos (by omega) g u) fun h => ⟨0, owed_pos h, hn⟩

end Cert.Moe

end
-- ==== Proof.Windows.lean ====
/-
  WHAT THE WINDOWS HOLD.

  Device `c`'s half of the token rows and its peer's are complementary, and so are the two slots of the router columns
  and the two halves of the gate rows. What a device stores in its own half, and what its peer's copy lands in the other,
  are the two parts of the pair's whole array (`xfAt`, `rsAt`, `gAt`); a weight slot reads back the expert block copied
  into it.
-/
module

public import proofs.«01_k».proof.Proof.Protocol
public import Idealize.ShloMosaic.Lib.Pipeline.Value
public import Idealize.ShloMosaic.Lib.Pipeline.ValueKit.Geometry
public import Idealize.ShloMosaic.Lib.ViewIndex
public import Idealize.ShloMosaic.Lib.Writes

@[expose] public section

noncomputable section

namespace Cert.Moe

open Cert.KernelIdeal Cert.KernelIdeal.Gen
open Idealize.ShloMosaic Idealize.ShloMosaic.TcCoe Idealize.ShloMosaic.ValueIdx

variable {F : FTy → Type} [FloatOps F] [Named F]
variable (m : (ℓ : Loc nD τ sig) → Buf (Elt F) ℓ)

/-! ## A device's place in its pair -/

theorem place_lt (c : Dev nD) : c.val / 16 < 2 := by revert c; decide
theorem place_peer (c : Dev nD) : (peer c).val / 16 = 1 - c.val / 16 := by revert c; decide
/-- The device of `c`'s pair with `c`'s own first coordinate is `c`. -/
theorem at_place (c : Dev nD) : (if c.val / 16 = 0 then lo c else hi c) = c := by revert c; decide

theorem off2_0 (c : Dev nD) : k0_off2 c 0 = 512 * (c.val / 16) := by rw [k0_off2_eq]; rfl
theorem off2_1 (c : Dev nD) : k0_off2 c 1 = 0 := by rw [k0_off2_eq]; rfl
theorem off5_0 (c : Dev nD) : k0_off5 c 0 = 512 * (c.val / 16) := by rw [k0_off5_eq]; rfl
theorem off5_1 (c : Dev nD) : k0_off5 c 1 = 0 := by rw [k0_off5_eq]; rfl
theorem off7_0 (c : Dev nD) : k0_off7 c 0 = 512 - 512 * (c.val / 16) := by rw [k0_off7_eq]; rfl
theorem off7_1 (c : Dev nD) : k0_off7 c 1 = 0 := by rw [k0_off7_eq]; rfl
theorem off4_0 (c : Dev nD) : k0_off4 c 0 = c.val / 16 := by rw [k0_off4_eq]; rfl
theorem off4_1 (c : Dev nD) : k0_off4 c 1 = 0 := by rw [k0_off4_eq]; rfl
theorem off4_2 (c : Dev nD) : k0_off4 c 2 = 0 := by rw [k0_off4_eq]; rfl

theorem off3_0 (c : Dev nD) : k0_off3 c 0 = 512 * (c.val / 16) := off2_0 c
theorem off3_1 (c : Dev nD) : k0_off3 c 1 = 0 := off2_1 c
theorem off6_0 (c : Dev nD) : k0_off6 c 0 = 512 * (c.val / 16) := off5_0 c
theorem off6_1 (c : Dev nD) : k0_off6 c 1 = 0 := off5_1 c

/-- The rectangles that the kernel loads and stores through. -/
abbrev rX (c : Dev nD) : Rect S1024x1024 := Rect.unit (s := S1024x1024) (k0_off2 c) S512x1024.size (k0_off2_inb c)
abbrev rR (c : Dev nD) : Rect S2x1024x4 := Rect.unit (s := S2x1024x4) (k0_off4 c) S1x1024x4.size (k0_off4_inb c)
abbrev rG (c : Dev nD) : Rect S1024x8 := Rect.unit (s := S1024x8) (k0_off5 c) S512x8.size (k0_off5_inb c)

/-! ## Rows of a block inside the two blocks -/

/-- Row `512 p + r` of the pair's array is row `r` of the block of the device with first coordinate `p`. -/
theorem rows_own {n : ℕ} {α : Type} (f : Dev nD → (⟨2, ![512, n]⟩ : Shape).Idx → α) (c : Dev nD)
    (i : (⟨2, ![1024, n]⟩ : Shape).Idx) (x : (⟨2, ![512, n]⟩ : Shape).Idx)
    (h0 : (i 0 : ℕ) = 512 * (c.val / 16) + (x 0 : ℕ)) (h1 : (i 1 : ℕ) = x 1) :
    rows (f (lo c)) (f (hi c)) i = f c x := by
  have hx : (x 0 : ℕ) < 512 := (x 0).isLt
  have e1 : i 1 = x 1 := Fin.ext h1
  unfold rows
  rcases lo_or_hi c with ⟨hc, hl, -⟩ | ⟨hc, -, hh⟩
  · have hi0 : (i 0 : ℕ) < 512 := by omega
    rw [dif_pos hi0, hl]
    refine congrArg (f c) ?_
    rw [eq_ix2 x, e1]
    exact congrArg (fun z => ix2 z (x 1)) (Fin.ext (by show (i 0 : ℕ) = x 0; omega))
  · have hi0 : ¬ (i 0 : ℕ) < 512 := by omega
    rw [dif_neg hi0, hh]
    refine congrArg (f c) ?_
    rw [eq_ix2 x, e1]
    exact congrArg (fun z => ix2 z (x 1)) (Fin.ext (by show (i 0 : ℕ) - 512 = x 0; omega))

theorem xfAt_peer (c : Dev nD) : xfAt m (peer c) = xfAt m c := by unfold xfAt; rw [lo_peer, hi_peer]
theorem rslot_peer (c : Dev nD) (j : ℕ) : rslot m (peer c) j = rslot m c j := by unfold rslot; rw [lo_peer, hi_peer]
theorem rsAt_peer (c : Dev nD) : rsAt m (peer c) = rsAt m c := by unfold rsAt; simp only [rslot_peer]
theorem gAt_peer (c : Dev nD) : gAt m (peer c) = gAt m c := by unfold gAt; rw [lo_peer, hi_peer]

/-! ## A store in a window -/

/-- What the token rows' window holds after the device stored its own rows there. -/
theorem stored_x (c : Dev nD) (f : (cc0_scratch0 : Ref sig .tc).ty.Contents (Elt F)) (i : (winX c).view.ty.Idx) (h : i ∈ (winX c).view.set) :
    ((xfM : Memref sig .tc .vmem S1024x1024 .bf16).access (rX c) : View sig .tc _ _ _).write (Elt F) f (xbAt m c) Finset.univ i = xfAt m c i := by
  obtain ⟨x, -, rfl⟩ := Finset.mem_map.mp h
  refine (View.write_emb_of_mem (v := ((xfM : Memref sig .tc .vmem S1024x1024 .bf16).access (rX c) : View sig .tc _ _ _)) (Val := Elt F) f (xbAt m c) (x := x) (Finset.mem_univ _)).trans ?_
  refine (rows_own (xbAt m) c _ x ?_ ?_).symm
  · exact (ValueKit.view_emb_slice_whole_unit_val cc0_scratch0 _ _ _ x 0).trans (by rw [off3_0])
  · exact (ValueKit.view_emb_slice_whole_unit_val cc0_scratch0 _ _ _ x 1).trans (by rw [off3_1, Nat.zero_add])

/-- The gate rows likewise. -/
theorem stored_g (c : Dev nD) (f : (cc0_scratch3 : Ref sig .tc).ty.Contents (Elt F)) (i : (winG c).view.ty.Idx) (h : i ∈ (winG c).view.set) :
    ((gM : Memref sig .tc .vmem S1024x8 .f32).access (rG c) : View sig .tc _ _ _).write (Elt F) f (gbAt m c) Finset.univ i = gAt m c i := by
  obtain ⟨x, -, rfl⟩ := Finset.mem_map.mp h
  refine (View.write_emb_of_mem (v := ((gM : Memref sig .tc .vmem S1024x8 .f32).access (rG c) : View sig .tc _ _ _)) (Val := Elt F) f (gbAt m c) (x := x) (Finset.mem_univ _)).trans ?_
  refine (rows_own (gbAt m) c _ x ?_ ?_).symm
  · exact (ValueKit.view_emb_slice_whole_unit_val cc0_scratch3 _ _ _ x 0).trans (by rw [off6_0])
  · exact (ValueKit.view_emb_slice_whole_unit_val cc0_scratch3 _ _ _ x 1).trans (by rw [off6_1, Nat.zero_add])

/-- The router columns: the device's own slot. -/
theorem stored_r (c : Dev nD) (f : (cc0_scratch1 : Ref sig .tc).ty.Contents (Elt F)) (i : (slotR c).view.ty.Idx) (h : i ∈ (slotR c).view.set) :
    ((rsM : Memref sig .tc .vmem S2x1024x4 .f32).access (rR c) : View sig .tc _ _ _).write (Elt F) f (k0_pay3 (rAt m c)) Finset.univ i = rsAt m c i := by
  obtain ⟨x, -, rfl⟩ := Finset.mem_map.mp h
  refine (View.write_emb_of_mem (v := ((rsM : Memref sig .tc .vmem S2x1024x4 .f32).access (rR c) : View sig .tc _ _ _)) (Val := Elt F) f (k0_pay3 (rAt m c)) (x := x) (Finset.mem_univ _)).trans ?_
  have hx : (x 0 : ℕ) < 1 := (x 0).isLt
  have e0 : (((slotR c).view.emb x 0 : Fin _) : ℕ) = c.val / 16 :=
    (ValueKit.view_emb_slice_whole_unit_val cc0_scratch1 _ _ _ x 0).trans (by rw [show k0_off1 c 0 = c.val / 16 from off4_0 c]; omega)
  have e1 : (((slotR c).view.emb x 1 : Fin _) : ℕ) = x 1 :=
    (ValueKit.view_emb_slice_whole_unit_val cc0_scratch1 _ _ _ x 1).trans (by rw [show k0_off1 c 1 = 0 from off4_1 c, Nat.zero_add])
  have e2 : (((slotR c).view.emb x 2 : Fin _) : ℕ) = x 2 :=
    (ValueKit.view_emb_slice_whole_unit_val cc0_scratch1 _ _ _ x 2).trans (by rw [show k0_off1 c 2 = 0 from off4_2 c, Nat.zero_add])
  show k0_pay3 (rAt m c) x = rsAt m c _
  unfold rsAt rslot
  rw [e0, at_place]
  refine congrArg (k0_pay3 (rAt m c)) ?_
  rw [eq_ix3 x]
  exact congr (congr (congrArg ix3 (Fin.ext (by show (x 0 : ℕ) = 0; omega))) (Fin.ext e1.symm)) (Fin.ext e2.symm)

/-! ## A copy's landing -/

/-- A window written with what the same window reads elsewhere holds what it holds there. -/
theorem landed_self {κ : Kind} {sp : Space} {s : Shape} {e : EltTy} (v : View sig κ sp s e) (f g : v.ty.Contents (Elt F)) (i : v.ty.Idx) (h : i ∈ v.set) :
    v.write (Elt F) f (v.read (Elt F) g) Finset.univ i = g i := by
  obtain ⟨x, -, rfl⟩ := Finset.mem_map.mp h
  rw [View.write_emb_of_mem (v := v) f _ (Finset.mem_univ x), View.read_apply, cast_cast, cast_eq]

/-- The router columns landing in the peer's buffer: the sender's slot. -/
theorem landed_r (c : Dev nD) (f : (cc0_scratch1 : Ref sig .tc).ty.Contents (Elt F)) (i : (winR c).view.ty.Idx) (h : i ∈ (winR c).view.set) :
    (winR c).view.write (Elt F) f ((rStg : Memref sig .tc .vmem S1024x4 .f32).view.read (Elt F) (rAt m c)) Finset.univ i = rsAt m c i := by
  have hv : (winR c).view = (slotR c).view.reshape S1024x4 squeezes_S1x1024x4_S1024x4.numel_eq := rfl
  have hs : i ∈ (slotR c).view.set := Finset.mem_of_subset (subset_of_eq (View.set_reshape (slotR c).view squeezes_S1x1024x4_S1024x4.numel_eq)) h
  refine (congrFun (View.write_reshape_univ (v := (slotR c).view) squeezes_S1x1024x4_S1024x4.numel_eq f _) i).trans ?_
  refine Eq.trans ?_ (stored_r m c f i hs)
  refine congrFun (congrArg (fun w => (slotR c).view.write (Elt F) f w Finset.univ) ?_) i
  funext x
  unfold k0_pay3
  rw [shapeCast_self]
  rfl

/-! ## The two halves -/

theorem mem_winX (c : Dev nD) (i : (winX c).view.ty.Idx) : i ∈ (winX c).view.set ↔ ((i 0 : Fin _) : ℕ) / 512 = c.val / 16 := by
  have hi : ((i 0 : Fin _) : ℕ) < 1024 := (i 0).isLt
  constructor
  · intro h
    obtain ⟨x, -, rfl⟩ := Finset.mem_map.mp h
    have hx : (x 0 : ℕ) < 512 := (x 0).isLt
    rw [show (((winX c).view.emb x 0 : Fin _) : ℕ) = 512 * (c.val / 16) + x 0 from
      (ValueKit.view_emb_slice_whole_unit_val cc0_scratch0 _ _ _ x 0).trans (by rw [show k0_off3 c 0 = _ from off2_0 c])]
    omega
  · intro h
    refine Finset.mem_map.mpr ⟨ix2 ⟨(i 0 : ℕ) - 512 * (c.val / 16), by omega⟩ (i 1), Finset.mem_univ _, ?_⟩
    funext a
    refine Fin.ext ((ValueKit.view_emb_slice_whole_unit_val cc0_scratch0 _ _ _ _ a).trans ?_)
    fin_cases a
    · show k0_off3 c 0 + ((i 0 : ℕ) - 512 * (c.val / 16)) = (i 0 : ℕ)
      rw [show k0_off3 c 0 = _ from off2_0 c]; omega
    · show k0_off3 c 1 + (i 1 : ℕ) = (i 1 : ℕ)
      rw [show k0_off3 c 1 = _ from off2_1 c, Nat.zero_add]

theorem mem_winG (c : Dev nD) (i : (winG c).view.ty.Idx) : i ∈ (winG c).view.set ↔ ((i 0 : Fin _) : ℕ) / 512 = c.val / 16 := by
  have hi : ((i 0 : Fin _) : ℕ) < 1024 := (i 0).isLt
  constructor
  · intro h
    obtain ⟨x, -, rfl⟩ := Finset.mem_map.mp h
    have hx : (x 0 : ℕ) < 512 := (x 0).isLt
    rw [show (((winG c).view.emb x 0 : Fin _) : ℕ) = 512 * (c.val / 16) + x 0 from
      (ValueKit.view_emb_slice_whole_unit_val cc0_scratch3 _ _ _ x 0).trans (by rw [show k0_off6 c 0 = _ from off5_0 c])]
    omega
  · intro h
    refine Finset.mem_map.mpr ⟨ix2 ⟨(i 0 : ℕ) - 512 * (c.val / 16), by omega⟩ (i 1), Finset.mem_univ _, ?_⟩
    funext a
    refine Fin.ext ((ValueKit.view_emb_slice_whole_unit_val cc0_scratch3 _ _ _ _ a).trans ?_)
    fin_cases a
    · show k0_off6 c 0 + ((i 0 : ℕ) - 512 * (c.val / 16)) = (i 0 : ℕ)
      rw [show k0_off6 c 0 = _ from off5_0 c]; omega
    · show k0_off6 c 1 + (i 1 : ℕ) = (i 1 : ℕ)
      rw [show k0_off6 c 1 = _ from off5_1 c, Nat.zero_add]

theorem mem_winR (c : Dev nD) (i : (winR c).view.ty.Idx) : i ∈ (winR c).view.set ↔ ((i 0 : Fin _) : ℕ) = c.val / 16 := by
  have hi : ((i 0 : Fin _) : ℕ) < 2 := (i 0).isLt
  have hset : (winR c).view.set = (slotR c).view.set := View.set_reshape _ _
  rw [hset]
  constructor
  · intro h
    obtain ⟨x, -, rfl⟩ := Finset.mem_map.mp h
    have hx : (x 0 : ℕ) < 1 := (x 0).isLt
    rw [show (((slotR c).view.emb x 0 : Fin _) : ℕ) = c.val / 16 + x 0 from
      (ValueKit.view_emb_slice_whole_unit_val cc0_scratch1 _ _ _ x 0).trans (by rw [show k0_off1 c 0 = _ from off4_0 c])]
    omega
  · intro h
    refine Finset.mem_map.mpr ⟨ix3 0 (i 1) (i 2), Finset.mem_univ _, ?_⟩
    funext a
    refine Fin.ext ((ValueKit.view_emb_slice_whole_unit_val cc0_scratch1 _ _ _ _ a).trans ?_)
    fin_cases a
    · show k0_off1 c 0 + 0 = (i 0 : ℕ)
      rw [show k0_off1 c 0 = _ from off4_0 c, h, Nat.add_zero]
    · show k0_off1 c 1 + (i 1 : ℕ) = (i 1 : ℕ)
      rw [show k0_off1 c 1 = _ from off4_1 c, Nat.zero_add]
    · show k0_off1 c 2 + (i 2 : ℕ) = (i 2 : ℕ)
      rw [show k0_off1 c 2 = _ from off4_2 c, Nat.zero_add]

theorem winX_peer (c : Dev nD) : (winX (peer c)).view.set = Finset.univ \ (winX c).view.set := by
  ext i
  have hi : ((i 0 : Fin _) : ℕ) < 1024 := (i 0).isLt
  have := place_lt c; have := place_peer c
  rw [Finset.mem_sdiff, mem_winX (peer c) i, mem_winX c i]
  constructor
  · intro h; exact ⟨Finset.mem_univ _, by omega⟩
  · rintro ⟨-, h⟩; omega

theorem winG_peer (c : Dev nD) : (winG (peer c)).view.set = Finset.univ \ (winG c).view.set := by
  ext i
  have hi : ((i 0 : Fin _) : ℕ) < 1024 := (i 0).isLt
  have := place_lt c; have := place_peer c
  rw [Finset.mem_sdiff, mem_winG (peer c) i, mem_winG c i]
  constructor
  · intro h; exact ⟨Finset.mem_univ _, by omega⟩
  · rintro ⟨-, h⟩; omega

theorem winR_peer (c : Dev nD) : (winR (peer c)).view.set = Finset.univ \ (winR c).view.set := by
  ext i
  have hi : ((i 0 : Fin _) : ℕ) < 2 := (i 0).isLt
  have := place_lt c; have := place_peer c
  rw [Finset.mem_sdiff, mem_winR (peer c) i, mem_winR c i]
  constructor
  · intro h; exact ⟨Finset.mem_univ _, by omega⟩
  · rintro ⟨-, h⟩; omega

/-! ## Loads -/

theorem hz2 : (![0, 0] : Fin 2 → Nat) = fun _ => 0 := funext fun a => by fin_cases a <;> rfl

/-- Slot `j` of the router columns, loaded. -/
theorem read_rs (c : Dev nD) (j : ℕ) (inb) :
    (rsM : Memref sig .tc .vmem S2x1024x4 .f32).view.readAt (Elt F) (Rect.unit (s := S2x1024x4) ![j, 0, 0] S1x1024x4.size inb).toLoadRect (rsAt m c) = rslot m c j := by
  funext x
  have hx : (x 0 : ℕ) < 1 := (x 0).isLt
  rw [View.readAt_rect]
  show rsAt m c _ = _
  unfold rsAt
  have e0 : ((((View.whole cc0_scratch1).slice (Rect.unit (s := S2x1024x4) ![j, 0, 0] S1x1024x4.size inb)).emb x 0 : Fin _) : ℕ) = j :=
    (ValueKit.view_emb_slice_whole_unit_val cc0_scratch1 _ _ _ x 0).trans (by show j + (x 0 : ℕ) = j; omega)
  have e1 : ((((View.whole cc0_scratch1).slice (Rect.unit (s := S2x1024x4) ![j, 0, 0] S1x1024x4.size inb)).emb x 1 : Fin _) : ℕ) = x 1 :=
    (ValueKit.view_emb_slice_whole_unit_val cc0_scratch1 _ _ _ x 1).trans (by show 0 + (x 1 : ℕ) = x 1; omega)
  have e2 : ((((View.whole cc0_scratch1).slice (Rect.unit (s := S2x1024x4) ![j, 0, 0] S1x1024x4.size inb)).emb x 2 : Fin _) : ℕ) = x 2 :=
    (ValueKit.view_emb_slice_whole_unit_val cc0_scratch1 _ _ _ x 2).trans (by show 0 + (x 2 : ℕ) = x 2; omega)
  show rslot m c ((((View.whole cc0_scratch1).slice (Rect.unit (s := S2x1024x4) ![j, 0, 0] S1x1024x4.size inb)).emb x 0 : Fin _) : ℕ) (ix3 0 _ _) = _
  rw [e0]
  refine congrArg (rslot m c j) ?_
  rw [eq_ix3 x]
  exact congr (congr (congrArg ix3 (Fin.ext (by show 0 = (x 0 : ℕ); omega))) (Fin.ext e1)) (Fin.ext e2)

abbrev rT0 : Rect S2x1024x1024 := Rect.unit (s := S2x1024x1024) ![0, 0, 0] S1x1024x1024.size inb_S2x1024x1024_S1x1024x1024_0_0_0
abbrev rT1 : Rect S2x1024x1024 := Rect.unit (s := S2x1024x1024) ![1, 0, 0] S1x1024x1024.size inb_S2x1024x1024_S1x1024x1024_1_0_0

/-- The tables after their two stores, as the kernel loads them: the second slot and the first. -/
theorem read_tri1 (f : (cc0_scratch2 : Ref sig .tc).ty.Contents (Elt F)) (a b : Vec F S1x1024x1024 .f32) :
    (trM : Memref sig .tc .vmem S2x1024x1024 .f32).view.readAt (Elt F) rT1.toLoadRect
      (((trM : Memref sig .tc .vmem S2x1024x1024 .f32).access rT1 : View sig .tc _ _ _).write (Elt F)
        (((trM : Memref sig .tc .vmem S2x1024x1024 .f32).access rT0 : View sig .tc _ _ _).write (Elt F) f a Finset.univ) b Finset.univ) = b := by
  rw [View.readAt_rect]; exact View.read_write_univ (v := ((trM : Memref sig .tc .vmem S2x1024x1024 .f32).access rT1 : View sig .tc _ _ _)) _ b
theorem read_tri0 (f : (cc0_scratch2 : Ref sig .tc).ty.Contents (Elt F)) (a b : Vec F S1x1024x1024 .f32) :
    (trM : Memref sig .tc .vmem S2x1024x1024 .f32).view.readAt (Elt F) rT0.toLoadRect
      (((trM : Memref sig .tc .vmem S2x1024x1024 .f32).access rT1 : View sig .tc _ _ _).write (Elt F)
        (((trM : Memref sig .tc .vmem S2x1024x1024 .f32).access rT0 : View sig .tc _ _ _).write (Elt F) f a Finset.univ) b Finset.univ) = a := by
  rw [View.readAt_rect]
  refine Eq.trans ?_ (View.read_write_univ (v := ((trM : Memref sig .tc .vmem S2x1024x1024 .f32).access rT0 : View sig .tc _ _ _)) f a)
  funext x
  rw [View.read_apply, View.read_apply]
  refine congrArg _ (View.write_of_not_mem _ _ _ fun h => ?_)
  obtain ⟨y, -, hy⟩ := Finset.mem_map.mp h
  have hx : (x 0 : ℕ) < 1 := (x 0).isLt
  have h0 := congrArg (fun z : (View.whole cc0_scratch2).ty.Idx => ((z 0 : Fin _) : ℕ)) hy
  have e1 : ((((View.whole cc0_scratch2).slice rT1).emb y 0 : Fin _) : ℕ) = 1 + y 0 := ValueKit.view_emb_slice_whole_unit_val cc0_scratch2 _ _ _ y 0
  have e0 : ((((View.whole cc0_scratch2).slice rT0).emb x 0 : Fin _) : ℕ) = 0 + x 0 := ValueKit.view_emb_slice_whole_unit_val cc0_scratch2 _ _ _ x 0
  have := e1.symm.trans (h0.trans e0)
  omega

/-! ## The weight copies -/

/-- A slot of the first weights' buffer, and expert block of the first weights; of the second. -/
abbrev w1Slot (off : Fin 3 → ℕ) (inb : ∀ a, off a + S1x1024x2048.size a ≤ S2x1024x2048.size a) : Memref sig .tc .vmem S1024x2048 .f32 :=
  (w1M.slice (Rect.unit (s := S2x1024x2048) off S1x1024x2048.size inb) (fun _ => rfl)).squeeze S1024x2048 squeezes_S1x1024x2048_S1024x2048
abbrev w1Blk (off : Fin 3 → ℕ) (inb : ∀ a, off a + S1x1024x2048.size a ≤ S4x1024x2048.size a) : Memref sig .tc .hbm S1024x2048 .f32 :=
  (w1H.slice (Rect.unit (s := S4x1024x2048) off S1x1024x2048.size inb) (fun _ => rfl)).squeeze S1024x2048 squeezes_S1x1024x2048_S1024x2048
abbrev w2Slot (off : Fin 3 → ℕ) (inb : ∀ a, off a + S1x2048x1024.size a ≤ S2x2048x1024.size a) : Memref sig .tc .vmem S2048x1024 .f32 :=
  (w2M.slice (Rect.unit (s := S2x2048x1024) off S1x2048x1024.size inb) (fun _ => rfl)).squeeze S2048x1024 squeezes_S1x2048x1024_S2048x1024
abbrev w2Blk (off : Fin 3 → ℕ) (inb : ∀ a, off a + S1x2048x1024.size a ≤ S4x2048x1024.size a) : Memref sig .tc .hbm S2048x1024 .f32 :=
  (w2H.slice (Rect.unit (s := S4x2048x1024) off S1x2048x1024.size inb) (fun _ => rfl)).squeeze S2048x1024 squeezes_S1x2048x1024_S2048x1024

/-- A squeezed slice written with what a squeezed slice of the same shape reads: the one slice holds what the other does. -/
theorem read_squeezed {κ κ' : Kind} {sp sp' : Space} {s s' : Shape} {e : EltTy} (v : View sig κ sp s e) (u : View sig κ' sp' s e) (h : s'.numel = s.numel)
    (f : v.ty.Contents (Elt F)) (g : u.ty.Contents (Elt F)) :
    v.read (Elt F) ((v.reshape s' h).write (Elt F) f ((u.reshape s' h).read (Elt F) g) Finset.univ) = u.read (Elt F) g := by
  rw [View.write_reshape_univ, View.read_write_univ]
  funext x
  show u.read (Elt F) g (Shape.reshapeEquiv h ((Shape.reshapeEquiv h).symm x)) = _
  rw [Equiv.apply_symm_apply]

theorem read_w1 (c : Dev nD) (e : Fin 4) {off : Fin 3 → ℕ} {offe : Fin 3 → ℕ} (inb inbe) (he : offe = ![e.val, 0, 0])
    (f : (cc0_scratch4 : Ref sig .tc).ty.Contents (Elt F)) (via : ReadAs (Elt F) S1024x2048 .f32 S1024x2048 .f32) (hvia : via = ReadAs.same) :
    (w1M : Memref sig .tc .vmem S2x1024x2048 .f32).view.readAt (Elt F) (Rect.unit (s := S2x1024x2048) off S1x1024x2048.size inb).toLoadRect
      ((w1Slot off inb).view.write (Elt F) f (via.apply ((w1Blk offe inbe).view.read (Elt F) (m ((c : Thread nD τ).loc main_arg2)))) Finset.univ) = w1At m c e := by
  subst hvia he
  rw [View.readAt_rect]
  refine (read_squeezed ((View.whole cc0_scratch4).slice (Rect.unit (s := S2x1024x2048) off S1x1024x2048.size inb))
    ((View.whole main_arg2).slice (Rect.unit (s := S4x1024x2048) _ S1x1024x2048.size inbe)) _ f _).trans ?_
  funext x
  have hx : (x 0 : ℕ) < 1 := (x 0).isLt
  show (m ((c : Thread nD τ).loc main_arg2) : Vec F S4x1024x2048 .f32) _ = (m ((c : Thread nD τ).loc main_arg2) : Vec F S4x1024x2048 .f32) _
  refine congrArg (m ((c : Thread nD τ).loc main_arg2) : Vec F S4x1024x2048 .f32) ?_
  funext a
  refine Fin.ext ((ValueKit.view_emb_slice_whole_unit_val main_arg2 _ _ _ x a).trans ?_)
  fin_cases a
  · show e.val + (x 0 : ℕ) = e.val; omega
  · show 0 + (x 1 : ℕ) = x 1; omega
  · show 0 + (x 2 : ℕ) = x 2; omega

theorem read_w2 (c : Dev nD) (e : Fin 4) {off : Fin 3 → ℕ} {offe : Fin 3 → ℕ} (inb inbe) (he : offe = ![e.val, 0, 0])
    (f : (cc0_scratch5 : Ref sig .tc).ty.Contents (Elt F)) (via : ReadAs (Elt F) S2048x1024 .f32 S2048x1024 .f32) (hvia : via = ReadAs.same) :
    (w2M : Memref sig .tc .vmem S2x2048x1024 .f32).view.readAt (Elt F) (Rect.unit (s := S2x2048x1024) off S1x2048x1024.size inb).toLoadRect
      ((w2Slot off inb).view.write (Elt F) f (via.apply ((w2Blk offe inbe).view.read (Elt F) (m ((c : Thread nD τ).loc main_arg3)))) Finset.univ) = w2At m c e := by
  subst hvia he
  rw [View.readAt_rect]
  refine (read_squeezed ((View.whole cc0_scratch5).slice (Rect.unit (s := S2x2048x1024) off S1x2048x1024.size inb))
    ((View.whole main_arg3).slice (Rect.unit (s := S4x2048x1024) _ S1x2048x1024.size inbe)) _ f _).trans ?_
  funext x
  have hx : (x 0 : ℕ) < 1 := (x 0).isLt
  show (m ((c : Thread nD τ).loc main_arg3) : Vec F S4x2048x1024 .f32) _ = (m ((c : Thread nD τ).loc main_arg3) : Vec F S4x2048x1024 .f32) _
  refine congrArg (m ((c : Thread nD τ).loc main_arg3) : Vec F S4x2048x1024 .f32) ?_
  funext a
  refine Fin.ext ((ValueKit.view_emb_slice_whole_unit_val main_arg3 _ _ _ x a).trans ?_)
  fin_cases a
  · show e.val + (x 0 : ℕ) = e.val; omega
  · show 0 + (x 1 : ℕ) = x 1; omega
  · show 0 + (x 2 : ℕ) = x 2; omega

/-- The two slots of a weight buffer do not meet. -/
theorem slots1 (inb0 inb1) : (w1Slot ![1, 0, 0] inb1).view.set ⊆ Finset.univ \ (w1Slot ![0, 0, 0] inb0).view.set := by
  rw [View.set_reshape, View.set_reshape]
  intro i h
  refine Finset.mem_sdiff.mpr ⟨Finset.mem_univ _, fun h' => ?_⟩
  obtain ⟨x, -, rfl⟩ := Finset.mem_map.mp h
  obtain ⟨y, -, hy⟩ := Finset.mem_map.mp h'
  have hx : (y 0 : ℕ) < 1 := (y 0).isLt
  have h0 := congrArg (fun z : (View.whole cc0_scratch4).ty.Idx => ((z 0 : Fin _) : ℕ)) hy
  have e1 : ((((View.whole cc0_scratch4).slice (Rect.unit (s := S2x1024x2048) ![1, 0, 0] S1x1024x2048.size inb1)).emb x 0 : Fin _) : ℕ) = 1 + x 0 := ValueKit.view_emb_slice_whole_unit_val cc0_scratch4 _ _ _ x 0
  have e0 : ((((View.whole cc0_scratch4).slice (Rect.unit (s := S2x1024x2048) ![0, 0, 0] S1x1024x2048.size inb0)).emb y 0 : Fin _) : ℕ) = 0 + y 0 := ValueKit.view_emb_slice_whole_unit_val cc0_scratch4 _ _ _ y 0
  have := e0.symm.trans (h0.trans e1)
  omega
theorem slots2 (inb0 inb1) : (w2Slot ![1, 0, 0] inb1).view.set ⊆ Finset.univ \ (w2Slot ![0, 0, 0] inb0).view.set := by
  rw [View.set_reshape, View.set_reshape]
  intro i h
  refine Finset.mem_sdiff.mpr ⟨Finset.mem_univ _, fun h' => ?_⟩
  obtain ⟨x, -, rfl⟩ := Finset.mem_map.mp h
  obtain ⟨y, -, hy⟩ := Finset.mem_map.mp h'
  have hx : (y 0 : ℕ) < 1 := (y 0).isLt
  have h0 := congrArg (fun z : (View.whole cc0_scratch5).ty.Idx => ((z 0 : Fin _) : ℕ)) hy
  have e1 : ((((View.whole cc0_scratch5).slice (Rect.unit (s := S2x2048x1024) ![1, 0, 0] S1x2048x1024.size inb1)).emb x 0 : Fin _) : ℕ) = 1 + x 0 := ValueKit.view_emb_slice_whole_unit_val cc0_scratch5 _ _ _ x 0
  have e0 : ((((View.whole cc0_scratch5).slice (Rect.unit (s := S2x2048x1024) ![0, 0, 0] S1x2048x1024.size inb0)).emb y 0 : Fin _) : ℕ) = 0 + y 0 := ValueKit.view_emb_slice_whole_unit_val cc0_scratch5 _ _ _ y 0
  have := e0.symm.trans (h0.trans e1)
  omega

end Cert.Moe

end
-- ==== Proof.Steps.lean ====
/-
  ONE STEP AT A TIME: the wait on a cell, the remote copy that pays two cells, the signal, the copy of a weight block into
  its slot and its arrival — each stated over what this proof keeps (`records`, `owesE`), from the library's rule for the
  effect.
-/
module

public import proofs.«01_k».proof.Proof.Windows

@[expose] public section

noncomputable section

namespace Cert.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## What every device knows -/

/-- All the cells' invariants, and that each is at round 0 at least. -/
def records (K : Dev nD × Fin 9 → ℕ) : sProp 𝕄 :=
  iprop((bigSep Finset.univ fun ck : Dev nD × Fin 9 => cellInv ER (rd m) (K ck) (kcell ck))
    ∗ bigSep Finset.univ fun ck : Dev nD × Fin 9 => reached ER (kcell ck) 0)

instance records_persistent (K : Dev nD × Fin 9 → ℕ) : BI.Persistent (records m K) := by unfold records; infer_instance

theorem inv_of (K : Dev nD × Fin 9 → ℕ) (ck : Dev nD × Fin 9) :
    (bigSep Finset.univ fun ck : Dev nD × Fin 9 => (cellInv ER (rd m) (K ck) (kcell ck) : sProp 𝕄)) ⊢ cellInv ER (rd m) (K ck) (kcell ck) :=
  bigSep_elim (Finset.mem_univ ck)
theorem reached_of (ck : Dev nD × Fin 9) :
    (bigSep Finset.univ fun ck : Dev nD × Fin 9 => (reached ER (kcell ck) 0 : sProp 𝕄)) ⊢ reached ER (kcell ck) 0 :=
  bigSep_elim (Finset.mem_univ ck)
theorem inv_at (K : Dev nD × Fin 9 → ℕ) (ck : Dev nD × Fin 9) : records m K ⊢ cellInv ER (rd m) (K ck) (kcell ck) := by
  unfold records
  iintro ⟨#H, -⟩
  iapply (inv_of m K ck); iexact H
theorem reached_at (K : Dev nD × Fin 9 → ℕ) (ck : Dev nD × Fin 9) : records m K ⊢ reached ER (kcell ck) 0 := by
  unfold records
  iintro ⟨-, #H⟩
  iapply (reached_of (F := F) ck); iexact H

/-- What `c` owes, whatever it waited on before. -/
def owesE (c : Dev nD) (O : CellTallies nD τ sig Unit) : sProp 𝕄 := iprop(∃ W, owes (c : Thread nD τ) O W)

variable (K : Dev nD × Fin 9 → ℕ) (c : Dev nD)

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The wait on a cell -/

/-- The wait for all that a cell's one duty pays: its payload is handed over, and the cell closes, its counter at zero. -/
theorem step_wait (k : Fin 9) {w : TpuEff nD τ sig (Elt F) Λ₀ .tc PUnit} {sm : SemLoc sig} {k' : ℕ} (hsm : sm = csem k) (hk : k' = amt k)
    (hw : ∀ P : PUnit → sProp 𝕄, wpE (defs₀ (F := F)) 𝒱₀ (c : Thread nD τ) none Set.univ w P = waitSpec (c : Thread nD τ) Set.univ sm k' P)
    (O : CellTallies nD τ sig Unit) (hO : ∀ g u, 0 < O g u → ∃ j, g = kcell (peer c, j) ∧ lvk k < lvk j)
    {α : Type} {Q : α → sProp 𝕄} {p : PUnit → Prog (TpuEff nD τ sig (Elt F) Λ₀ .tc) α} :
    iprop(records m K ∗ levAts L lv ∗ cred (tallyAt (kcell (c, k)) () (amt k)) ∗ atPos ER (kcell (c, k)) 0 ∅ 0 ∗ owesE c O)
      ⊢ iprop(((semVal (kcell (c, k)) 0 ∗ pay m c k ∗ owesE c O) -∗ WP c (p ⟨⟩) Q) -∗ WP c (.op w p) Q) := by
  subst hsm hk
  unfold owesE
  iintro ⟨#HR, #Hlev, Hc, Hat, ⟨%W, HO⟩⟩ Hk
  iapply (Rounds.wp_wait_rest_token 𝒱₀ ER (rd m) (c : Thread nD τ) none (κ := K (c, k)) hw (Set.mem_univ _) () (O := O) (W := W) (R := 0) (m := 0) (T := ∅)
      (by rw [Nat.zero_add, expect_cell])) $$ [Hc HO Hat]
  · isplitr; · iapply (inv_at m K (c, k)); iexact HR
    isplitl [Hc]; · iexact Hc
    isplitl [HO]; · iexact HO
    isplitr
    · iapply (mayWait c (csem k) O fun g u h => by
        obtain ⟨j, hj, hl⟩ := hO g u h
        exact ⟨j, hj, by rw [show lvs (csem k) = lvk k from lv_cell c k]; exact hl⟩)
      iexact Hlev
    iexact Hat
  iintro ⟨HO, Hat, -, Hpay⟩
  ihave Hp := (Entails.of_eq (rest_cell m c k)) $$ Hpay
  imod (Rounds.cell_close ER (rd m) (Set.mem_univ (K (c, k))) (fun h => h) (R := 0 + 1) (duties_later m (kcell (c, k)))) $$ [Hat] with Hz
  · isplitr; · iapply (inv_at m K (c, k)); iexact HR
    iexact Hat
  iapply Hk
  isplitl [Hz]; · iexact Hz
  isplitl [Hp]; · iexact Hp
  iexists _; iexact HO

/-! ## The remote copy -/

/-- A copy to the peer: the source goes into `c`'s send cell, the landing into the peer's receive cell. -/
theorem step_send (ks kr : Fin 9) {n : Dev nD} (hn : n = peer c) {sp sp' : Space} {s : Shape} {e : EltTy}
    {src : Memref sig .tc sp s e} {dst : Memref sig .tc sp' s e} {sS sR : SemLoc sig} (hS : sS = csem ks) (hR : sR = csem kr)
    {hsc : (dst : Memref sig (Dev.tc n : Thread nD τ).2.kind sp' s e).view.ref.isScScratch = false}
    {hsrc : src.view.WordExact} {hdst : (dst : Memref sig (Dev.tc n : Thread nD τ).2.kind sp' s e).view.WordExact}
    {hsem : DmaTarget.Typed sp sR (.remote (Dev.tc n : Thread nD τ) dst sS hsc)}
    (q : PosShare TreeShare) (fs : Buf (Elt F) (src.view.loc (c : Thread nD τ)))
    (hN : (dst : Memref sig (Dev.tc n : Thread nD τ).2.kind sp' s e).view.amount sR = amt kr) (hN' : amt ks = amt kr)
    (hp₁ : (src.view.loc (c : Thread nD τ) ↦[src.view.set]{q} fs) ⊢ pay m c ks)
    (hp₂ : ∀ fd : Buf (Elt F) (dst.view.loc (peer c : Thread nD τ)), (dst.view.loc (peer c : Thread nD τ) ↦[dst.view.set]{fullShare} (dst.view.write (Elt F) fd (src.view.read (Elt F) fs) Finset.univ)) ⊢ pay m (peer c) kr)
    (O : CellTallies nD τ sig Unit) {α : Type} {Q : α → sProp 𝕄} {p : PUnit → Prog (TpuEff nD τ sig (Elt F) Λ₀ .tc) α} :
    iprop(records m K ∗ (src.view.loc (c : Thread nD τ) ↦[src.view.set]{q} fs)
        ∗ (∃ fd, dst.view.loc (peer c : Thread nD τ) ↦[dst.view.set]{fullShare} fd) ∗ owesE c (O + owed c kr)
        ∗ dutyTok ER (kcell (c, ks)) 0 () ∗ dutyTok ER (kcell (peer c, kr)) 0 ())
      ⊢ iprop(((cred (tallyAt (kcell (c, ks)) () (amt ks)) ∗ owesE c O) -∗ WP c (p ⟨⟩) Q)
          -∗ WP c (.op (.enqueueDma src (.remote (Dev.tc n : Thread nD τ) dst sS hsc) sR hsrc hdst hsem) p) Q) := by
  subst hn hS hR
  unfold owesE
  iintro ⟨#HR, Hs, ⟨%fd, Hd⟩, ⟨%W, HO⟩, Ht₁, Ht₂⟩ Hk
  iapply (Rounds.wp_send_pointsTo 𝒱₀ ER (rd m) (c : Thread nD τ) none (κ₁ := K (c, ks)) (κ₂ := K (peer c, kr))
      (r₁ := 0) (r₂ := 0) (d₁ := ()) (d₂ := ()) (fd := fd)
      (by rw [duties_cell]; exact Finset.mem_singleton_self _) (by rw [duties_cell]; exact Finset.mem_singleton_self _)
      () () (amt kr) hN ((amount_cell m c ks ()).trans hN') (amount_cell m (peer c) kr ()) O rfl (W := W)
      (by rw [payload_cell]; exact hp₁) (by rw [payload_cell]; exact hp₂ fd)) $$ [Hs Hd HO Ht₁ Ht₂]
  · isplitr; · iapply (inv_at m K (c, ks)); iexact HR
    isplitr; · iapply (inv_at m K (peer c, kr)); iexact HR
    isplitl [Hs]; · iexact Hs
    isplitl [Hd]; · iexact Hd
    isplitl [HO]; · iexact HO
    isplitl [Ht₁]; · iexact Ht₁
    isplitr; · iapply (reached_at m K (c, ks)); iexact HR
    isplitl [Ht₂]; · iexact Ht₂
    iapply (reached_at m K (peer c, kr)); iexact HR
  iintro ⟨Hc, HO⟩
  iapply Hk
  isplitl [Hc]; · rw [hN']; iexact Hc
  iexists _; iexact HO

/-! ## The signal -/

/-- The signal to the peer's barrier, handing over the windows that the peer will write. -/
theorem step_signal {n : Dev nD} (hn : n = peer c) {k' : ℕ} (hk' : k' = 1) (O : CellTallies nD τ sig Unit)
    {α : Type} {Q : α → sProp 𝕄} {p : PUnit → Prog (TpuEff nD τ sig (Elt F) Λ₀ .tc) α} :
    iprop(records m K ∗ payBar (peer c) ∗ owesE c (O + owed c 0) ∗ dutyTok ER (kcell (peer c, 0)) 0 ())
      ⊢ iprop((owesE c O -∗ WP c (p ⟨⟩) Q) -∗ WP c (.op (.semSignal (Dev.tc n : Thread nD τ) barS k') p) Q) := by
  subst hn hk'
  unfold owesE
  iintro ⟨#HR, Hp, ⟨%W, HO⟩, Ht⟩ Hk
  iapply (Rounds.wp_signal 𝒱₀ ER (rd m) (c : Thread nD τ) none (dst := (peer c : Thread nD τ)) (κ := K (peer c, 0)) (r := 0)
      (d := ()) (by rw [show (((peer c : Thread nD τ), SemLoc.reg barS) : GSem nD τ sig) = kcell (peer c, 0) from rfl, duties_cell]; exact Finset.mem_singleton_self _)
      (amount_cell m (peer c) 0 ()) () O rfl) $$ [HO Ht Hp]
  · isplitr; · iapply (inv_at m K (peer c, 0)); iexact HR
    isplitl [HO]; · iexact HO
    isplitl [Ht]; · iexact Ht
    isplitl [Hp]; · rw [show (((peer c : Thread nD τ), SemLoc.reg barS) : GSem nD τ sig) = kcell (peer c, 0) from rfl, payload_cell]; iapply (show payBar (peer c) ⊢ pay m (peer c) 0 from BI.Entails.refl _); iexact Hp
    iapply (reached_at m K (peer c, 0)); iexact HR
  iintro HO
  iapply Hk
  iexists _; iexact HO

/-! ## A weight block into its slot -/

section Fetch
variable {e : EltTy} {s : Shape} (sm : DmaSem sig) (slot : Memref sig .tc .vmem s e) (S : Finset (Idx (slot.view.loc (c : Thread nD τ))))
  (blk : Memref sig .tc .hbm s e) (q : PosShare TreeShare) (g : Buf (Elt F) (blk.view.loc (c : Thread nD τ)))

/-- The slot once the block is in it. -/
def filled : sProp 𝕄 :=
  iprop(∃ f, slot.view.loc (c : Thread nD τ) ↦[S]{fullShare} (slot.view.write (Elt F) f ((ReadAs.same : ReadAs (Elt F) s e s e).apply (blk.view.read (Elt F) g)) Finset.univ))

/-- The block on its way: what the wait will hand over, and the rest of the weights' share, which the block rejoins. -/
def flying : sProp 𝕄 :=
  iprop((∃ f, Transfers.Flight EC (c : Thread nD τ) (.dma sm) () slot.view.dmaCredit
      iprop((slot.view.loc (c : Thread nD τ) ↦[S]{fullShare} (slot.view.write (Elt F) f ((ReadAs.same : ReadAs (Elt F) s e s e).apply (blk.view.read (Elt F) g)) Finset.univ))
        ∗ (blk.view.loc (c : Thread nD τ) ↦[blk.view.set]{q} g)))
    ∗ (blk.view.loc (c : Thread nD τ) ↦[Finset.univ \ blk.view.set]{q} g))
end Fetch

open Transfers in
/-- The copy begins. -/
theorem step_fetch {e : EltTy} {s : Shape} {sm : DmaSem sig} {slot : Memref sig .tc .vmem s e} {S : Finset (Idx (slot.view.loc (c : Thread nD τ)))}
    {blk : Memref sig .tc .hbm s e} {q : PosShare TreeShare} {g : Buf (Elt F) (blk.view.loc (c : Thread nD τ))}
    {hsrc : blk.view.WordExact} {hdst : slot.view.WordExact} {hsem : DmaTarget.Typed (nD := nD) (τ := τ) .hbm (.dma sm) (.here (p := (c : Thread nD τ).2) slot)}
    (hS : slot.view.set ⊆ S) (hN0 : 0 < slot.view.dmaCredit)
    {α : Type} {Q : α → sProp 𝕄} {p : PUnit → Prog (TpuEff nD τ sig (Elt F) Λ₀ .tc) α} :
    iprop((blk.view.loc (c : Thread nD τ) ↦[Finset.univ]{q} g) ∗ (∃ f, slot.view.loc (c : Thread nD τ) ↦[S]{fullShare} f) ∗ semVal ((c : Thread nD τ), .dma sm) 0)
      ⊢ iprop((flying c sm slot S blk q g -∗ WP c (p ⟨⟩) Q) -∗ WP c (.op (.enqueueDma blk (.here slot) (.dma sm) hsrc hdst hsem) p) Q) := by
  iintro ⟨Hw, ⟨%f, Hs⟩, Hz⟩ Hk
  ihave Hw2 := (pointsTo_split_subset (ℓ := blk.view.loc (c : Thread nD τ)) (Finset.subset_univ blk.view.set)).1 $$ Hw
  icases Hw2 with ⟨Hb, Hr⟩
  iapply (wp_dmaLocal EC 𝒱₀ (c : Thread nD τ) none () slot.view.dmaCredit rfl hN0 hS) $$ [Hb Hs Hz]
  · isplitl [Hb]; · iexact Hb
    isplitl [Hs]; · iexact Hs
    iexact Hz
  iintro Hf
  iapply Hk
  unfold flying
  isplitl [Hf]; · iexists f; iexact Hf
  iexact Hr

open Transfers in
/-- The wait for it: the slot filled, the weights' share whole again, the semaphore at zero. -/
theorem step_arrive {e : EltTy} {s : Shape} {sm : DmaSem sig} {slot : Memref sig .tc .vmem s e} {S : Finset (Idx (slot.view.loc (c : Thread nD τ)))}
    {blk : Memref sig .tc .hbm s e} {q : PosShare TreeShare} {g : Buf (Elt F) (blk.view.loc (c : Thread nD τ))}
    {sp' sp : Space} {s' s'' : Shape} {e' e'' : EltTy} {srcw : Memref sig .tc sp' s' e'} {dstw : Memref sig .tc sp s'' e''}
    {hsrc : srcw.view.WordExact} {hdst : dstw.view.WordExact} (hN : dstw.view.dmaCredit = slot.view.dmaCredit)
    (O : CellTallies nD τ sig Unit) (hO : ∀ g u, 0 < O g u → ∃ j, g = kcell (peer c, j) ∧ 0 < lvk j) (hl : lvs (.dma sm) = 0)
    {α : Type} {Q : α → sProp 𝕄} {p : PUnit → Prog (TpuEff nD τ sig (Elt F) Λ₀ .tc) α} :
    iprop(levAts L lv ∗ flying c sm slot S blk q g ∗ owesE c O)
      ⊢ iprop(((filled c slot S blk g ∗ (blk.view.loc (c : Thread nD τ) ↦[Finset.univ]{q} g) ∗ semVal ((c : Thread nD τ), .dma sm) 0 ∗ owesE c O) -∗ WP c (p ⟨⟩) Q)
          -∗ WP c (.op (.waitDma2 sm srcw dstw hsrc hdst) p) Q) := by
  unfold flying owesE filled
  iintro ⟨#Hlev, ⟨⟨%f, Hf⟩, Hr⟩, ⟨%W, HO⟩⟩ Hk
  iapply (wp_waitLocalO EC 𝒱₀ (c : Thread nD τ) none () hN (O := O) (W := W)) $$ [Hf HO]
  · isplitl [Hf]; · iexact Hf
    isplitl [HO]; · iexact HO
    iapply (mayWait c (.dma sm) O fun g u h => by
        obtain ⟨j, hj, hl'⟩ := hO g u h
        exact ⟨j, hj, by rw [hl]; exact hl'⟩)
    iexact Hlev
  iintro ⟨⟨Hs, Hb⟩, Hz, HO⟩
  iapply Hk
  isplitl [Hs]; · iexists f; iexact Hs
  isplitl [Hb Hr]
  · iapply (pointsTo_split_subset (ℓ := blk.view.loc (c : Thread nD τ)) (Finset.subset_univ blk.view.set)).2
    isplitl [Hb] <;> iassumption
  isplitl [Hz]; · iexact Hz
  iexists _; iexact HO

end Cert.Moe

end
-- ==== Proof.Front.lean ====
/-
  THE BODY, FIRST HALF: the parts up to the routing tables. The barrier; the exchange of router columns and token rows;
  the first weight blocks' copies; the gates of the device's own tokens, and their exchange; the routing.
-/
module

public import proofs.«01_k».proof.Proof.Steps

@[expose] public section

noncomputable section

namespace Cert.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 9 → ℕ) (c : Dev nD)

/-! ## The parts at the buffers of the call -/

abbrev part1 := k0_part1 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part2 := k0_part2 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part3 := k0_part3 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part4 := k0_part4 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part5 := k0_part5 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part6 := k0_part6 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part7 := k0_part7 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part8 := k0_part8 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part9 := k0_part9 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part10 := k0_part10 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part11 := k0_part11 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part12 := k0_part12 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13
abbrev part13 := k0_part13 (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13

/-! ## What is held -/

/-- Duty token, credit, position and closed counter of a cell. -/
abbrev tk (ck : Dev nD × Fin 9) : sProp 𝕄 := dutyTok ER (kcell ck) 0 ()
abbrev cr (ck : Dev nD × Fin 9) : sProp 𝕄 := cred (tallyAt (kcell ck) () (amt ck.2))
abbrev po (ck : Dev nD × Fin 9) : sProp 𝕄 := atPos ER (kcell ck) 0 ∅ 0
abbrev zr (ck : Dev nD × Fin 9) : sProp 𝕄 := semVal (kcell ck) 0

/-- A whole buffer of device `c` at contents `f`. -/
abbrev holds {sp : Space} {s : Shape} {e : EltTy} (M : Memref sig .tc sp s e) (c : Dev nD) (q : PosShare TreeShare)
    (f : Buf (Elt F) (M.view.loc (c : Thread nD τ))) : sProp 𝕄 := M.view.loc (c : Thread nD τ) ↦[Finset.univ]{q} f

abbrev W1 (c : Dev nD) (q : PosShare TreeShare) : sProp 𝕄 := holds w1H c q (m ((c : Thread nD τ).loc main_arg2))
abbrev W2 (c : Dev nD) (q : PosShare TreeShare) : sProp 𝕄 := holds w2H c q (m ((c : Thread nD τ).loc main_arg3))

/-- The slots of the weight buffers, the elements that each is held at, and the expert blocks. -/
abbrev a0 := w1Slot ![0, 0, 0] inb_S2x1024x2048_S1x1024x2048_0_0_0
abbrev a1 := w1Slot ![1, 0, 0] inb_S2x1024x2048_S1x1024x2048_1_0_0
abbrev b0 := w2Slot ![0, 0, 0] inb_S2x2048x1024_S1x2048x1024_0_0_0
abbrev b1 := w2Slot ![1, 0, 0] inb_S2x2048x1024_S1x2048x1024_1_0_0
abbrev e0 := w1Blk ![0, 0, 0] inb_S4x1024x2048_S1x1024x2048_0_0_0
abbrev e1 := w1Blk ![1, 0, 0] inb_S4x1024x2048_S1x1024x2048_1_0_0
abbrev e2 := w1Blk ![2, 0, 0] inb_S4x1024x2048_S1x1024x2048_2_0_0
abbrev e3 := w1Blk ![3, 0, 0] inb_S4x1024x2048_S1x1024x2048_3_0_0
abbrev f0 := w2Blk ![0, 0, 0] inb_S4x2048x1024_S1x2048x1024_0_0_0
abbrev f1 := w2Blk ![1, 0, 0] inb_S4x2048x1024_S1x2048x1024_1_0_0
abbrev f2 := w2Blk ![2, 0, 0] inb_S4x2048x1024_S1x2048x1024_2_0_0
abbrev f3 := w2Blk ![3, 0, 0] inb_S4x2048x1024_S1x2048x1024_3_0_0
abbrev A0 : Finset S2x1024x2048.Idx := a0.view.set
abbrev A1 : Finset S2x1024x2048.Idx := Finset.univ \ a0.view.set
abbrev B0 : Finset S2x2048x1024.Idx := b0.view.set
abbrev B1 : Finset S2x2048x1024.Idx := Finset.univ \ b0.view.set

theorem a0_A0 : a0.view.set ⊆ A0 := subset_of_eq rfl
theorem b0_B0 : b0.view.set ⊆ B0 := subset_of_eq rfl
theorem a1_A1 : a1.view.set ⊆ A1 := slots1 _ _
theorem b1_B1 : b1.view.set ⊆ B1 := slots2 _ _

/-- A weight slot that no copy is filling: its contents whatever they are, its share of the weights, its semaphore at zero. -/
abbrev slack {s : Shape} {e : EltTy} (c : Dev nD) (slot : Memref sig .tc .vmem s e) (S : Finset (Idx (slot.view.loc (c : Thread nD τ)))) : sProp 𝕄 :=
  iprop(∃ f, slot.view.loc (c : Thread nD τ) ↦[S]{fullShare} f)

theorem loads_x (f : (cc0_stg0_0 : Ref sig .tc).ty.Contents (Elt F)) (inb) :
    (xStg : Memref sig .tc .vmem S512x1024 .f32).view.readAt (Elt F) (Rect.unit (s := S512x1024) ![0, 0] S512x1024.size inb).toLoadRect f = f :=
  Memref.readAt_unit_zero (Elt F) cc0_stg0_0 hz2 _ f
theorem loads_r (f : (cc0_stg1_0 : Ref sig .tc).ty.Contents (Elt F)) (inb) :
    (rStg : Memref sig .tc .vmem S1024x4 .f32).view.readAt (Elt F) (Rect.unit (s := S1024x4) ![0, 0] S1024x4.size inb).toLoadRect f = f :=
  Memref.readAt_unit_zero (Elt F) cc0_stg1_0 hz2 _ f
theorem loads_xf (f : (cc0_scratch0 : Ref sig .tc).ty.Contents (Elt F)) (inb) :
    (xfM : Memref sig .tc .vmem S1024x1024 .bf16).view.readAt (Elt F) (Rect.unit (s := S1024x1024) ![0, 0] S1024x1024.size inb).toLoadRect f = f :=
  Memref.readAt_unit_zero (Elt F) cc0_scratch0 hz2 _ f
theorem loads_g (f : (cc0_scratch3 : Ref sig .tc).ty.Contents (Elt F)) (inb) :
    (gM : Memref sig .tc .vmem S1024x8 .f32).view.readAt (Elt F) (Rect.unit (s := S1024x8) ![0, 0] S1024x8.size inb).toLoadRect f = f :=
  Memref.readAt_unit_zero (Elt F) cc0_scratch3 hz2 _ f

/-! ## The two halves joined -/

theorem whole_x : iprop(ptX m c c ∗ ptX m c (peer c)) ⊢ holds xfM c fullShare (xfAt m c) := by
  unfold ptX
  rw [winX_peer]
  exact (pointsTo_split_subset (ℓ := (xfM : Memref sig .tc .vmem S1024x1024 .bf16).view.loc (c : Thread nD τ)) (Finset.subset_univ (winX c).view.set)).2
theorem whole_r : iprop(ptR m c c ∗ ptR m c (peer c)) ⊢ holds rsM c fullShare (rsAt m c) := by
  unfold ptR
  rw [winR_peer]
  exact (pointsTo_split_subset (ℓ := (rsM : Memref sig .tc .vmem S2x1024x4 .f32).view.loc (c : Thread nD τ)) (Finset.subset_univ (winR c).view.set)).2
theorem whole_g : iprop(ptG m c c ∗ ptG m c (peer c)) ⊢ holds gM c fullShare (gAt m c) := by
  unfold ptG
  rw [winG_peer]
  exact (pointsTo_split_subset (ℓ := (gM : Memref sig .tc .vmem S1024x8 .f32).view.loc (c : Thread nD τ)) (Finset.subset_univ (winG c).view.set)).2

/-! ## The waits that are allowed -/

theorem ok1 (k : Fin 9) (h : lvk k < 2) : ∀ g u, 0 < O1 c g u → ∃ j, g = kcell (peer c, j) ∧ lvk k < lvk j := O1_pos h
theorem ok2 (k : Fin 9) (h : lvk k < 3) : ∀ g u, 0 < O2 c g u → ∃ j, g = kcell (peer c, j) ∧ lvk k < lvk j := O2_pos h
theorem ok3 (k : Fin 9) (h : lvk k < 4) : ∀ g u, 0 < O3 c g u → ∃ j, g = kcell (peer c, j) ∧ lvk k < lvk j := O3_pos h
theorem ok0 (n : ℕ) : ∀ (g : GSem nD τ sig) (u : Unit), 0 < (0 : CellTallies nD τ sig Unit) g u → ∃ j, g = kcell (peer c, j) ∧ n < lvk j :=
  fun _ _ h => absurd h (Nat.lt_irrefl 0)

/-! ## What the copies count, and what is owed, copy by copy -/

theorem cr_X : (winX c).view.dmaCredit = NX := by
  show sig.dmaCredit .tc (Kind.tc.table .vmem) (xfM : Memref sig .tc .vmem S1024x1024 .bf16).view.buf S512x1024 .bf16 = sig.dmaCredit .tc (Kind.tc.table .vmem) (xfM : Memref sig .tc .vmem S1024x1024 .bf16).view.buf S512x1024 .bf16
  rfl
theorem cr_R : (winR c).view.dmaCredit = NR := by
  show sig.dmaCredit .tc (Kind.tc.table .vmem) (rsM : Memref sig .tc .vmem S2x1024x4 .f32).view.buf S1024x4 .f32 = sig.dmaCredit .tc (Kind.tc.table .vmem) (rsM : Memref sig .tc .vmem S2x1024x4 .f32).view.buf S1024x4 .f32
  rfl
theorem cr_G : (winG c).view.dmaCredit = NG := by
  show sig.dmaCredit .tc (Kind.tc.table .vmem) (gM : Memref sig .tc .vmem S1024x8 .f32).view.buf S512x8 .f32 = sig.dmaCredit .tc (Kind.tc.table .vmem) (gM : Memref sig .tc .vmem S1024x8 .f32).view.buf S512x8 .f32
  rfl
theorem cr_rs : (rStg : Memref sig .tc .vmem S1024x4 .f32).view.dmaCredit = NR := by decide

theorem owes_0 : owesE (F := F) c (O₀ c) ⊢ owesE c (O1 c + owed c 0) := BI.Entails.refl _
theorem owes_1 : owesE (F := F) c (O1 c) ⊢ owesE c (Ox c + owed c 6) := BI.Entails.refl _
theorem owes_x : owesE (F := F) c (Ox c) ⊢ owesE c (O2 c + owed c 5) := BI.Entails.refl _
theorem owes_2 : owesE (F := F) c (O2 c) ⊢ owesE c (O3 c + owed c 7) := BI.Entails.refl _
theorem owes_3 : owesE (F := F) c (O3 c) ⊢ owesE c (0 + owed c 8) := by rw [zero_add]; exact BI.Entails.refl _

/-- The coordinate words that the body passes on. -/
abbrev iyw : BitVec 32 := Scalar.remsi (Scalar.divsi (Dev.word c) 4#32) 4#32
abbrev izw : BitVec 32 := Scalar.remsi (Scalar.divsi (Dev.word c) 1#32) 4#32
abbrev oxw : BitVec 32 := Scalar.subi 1#32 (ixw c)

theorem kept_x (f : (cc0_scratch0 : Ref sig .tc).ty.Contents (Elt F)) :
    (((xfM : Memref sig .tc .vmem S1024x1024 .bf16).access (rX c)).loc (c : Thread nD τ) ↦[(winX c).view.set]{fullShare}
      ((xfM : Memref sig .tc .vmem S1024x1024 .bf16).access (rX c)).write (Elt F) f (k0_pay2 (xAt m c)) Finset.univ) ⊢ ptX m c c :=
  Entails.of_eq (pointsTo_congr fun i hi => stored_x m c f i hi)
theorem kept_r (f : (cc0_scratch1 : Ref sig .tc).ty.Contents (Elt F)) :
    (((rsM : Memref sig .tc .vmem S2x1024x4 .f32).access (rR c)).loc (c : Thread nD τ) ↦[(winR c).view.set]{fullShare}
      ((rsM : Memref sig .tc .vmem S2x1024x4 .f32).access (rR c)).write (Elt F) f (k0_pay3 (rAt m c)) Finset.univ) ⊢ ptR m c c :=
  Entails.of_eq (pointsTo_congr fun i hi => stored_r m c f i (Finset.mem_of_subset (subset_of_eq (View.set_reshape (slotR c).view squeezes_S1x1024x4_S1024x4.numel_eq)) hi))
theorem kept_g (f : (cc0_scratch3 : Ref sig .tc).ty.Contents (Elt F)) :
    (((gM : Memref sig .tc .vmem S1024x8 .f32).access (rG c)).loc (c : Thread nD τ) ↦[(winG c).view.set]{fullShare}
      ((gM : Memref sig .tc .vmem S1024x8 .f32).access (rG c)).write (Elt F) f (k0_pay8 (k0_pay7 (xAt m c) (rslot m c 0) (xAt m c) (rslot m c 1))) Finset.univ) ⊢ ptG m c c :=
  Entails.of_eq (pointsTo_congr fun i hi => stored_g m c f i hi)

theorem sent_x (fd : Buf (Elt F) ((winX c).view.loc (peer c : Thread nD τ))) :
    ((winX c).view.loc (peer c : Thread nD τ) ↦[(winX c).view.set]{fullShare} (winX c).view.write (Elt F) fd ((winX c).view.read (Elt F) (xfAt m c)) Finset.univ)
      ⊢ pay m (peer c) 5 := by
  refine (Entails.of_eq (pointsTo_congr fun i hi => (landed_self (winX c).view fd (xfAt m c) i hi).trans (congrFun (xfAt_peer m c).symm i))).trans ?_
  show _ ⊢ ptX m (peer c) (peer (peer c))
  rw [peer_peer]; unfold ptX; exact BI.Entails.refl _
theorem sent_r (fd : Buf (Elt F) ((winR c).view.loc (peer c : Thread nD τ))) :
    ((winR c).view.loc (peer c : Thread nD τ) ↦[(winR c).view.set]{fullShare} (winR c).view.write (Elt F) fd ((rStg : Memref sig .tc .vmem S1024x4 .f32).view.read (Elt F) (rAt m c)) Finset.univ)
      ⊢ pay m (peer c) 6 := by
  refine (Entails.of_eq (pointsTo_congr fun i hi => (landed_r m c fd i hi).trans (congrFun (rsAt_peer m c).symm i))).trans ?_
  show _ ⊢ ptR m (peer c) (peer (peer c))
  rw [peer_peer]; unfold ptR; exact BI.Entails.refl _
theorem sent_g (fd : Buf (Elt F) ((winG c).view.loc (peer c : Thread nD τ))) :
    ((winG c).view.loc (peer c : Thread nD τ) ↦[(winG c).view.set]{fullShare} (winG c).view.write (Elt F) fd ((winG c).view.read (Elt F) (gAt m c)) Finset.univ)
      ⊢ pay m (peer c) 7 := by
  refine (Entails.of_eq (pointsTo_congr fun i hi => (landed_self (winG c).view fd (gAt m c) i hi).trans (congrFun (gAt_peer m c).symm i))).trans ?_
  show _ ⊢ ptG m (peer c) (peer (peer c))
  rw [peer_peer]; unfold ptG; exact BI.Entails.refl _

/-! ## Part 1: the barrier, the router columns sent -/

theorem run1 (Q : (Σ' (d0 : Dev nD) (v2 : BitVec 32) (v5 : BitVec 32) (v8 : BitVec 32) (v9 : BitVec 32) (v10 : BitVec 32), Vec F S512x1024 .f32) → sProp 𝕄) :
    iprop((records m K ∗ levAts L lv ∗ (anyX c (peer c) ∗ anyR c (peer c) ∗ anyG c (peer c) ∗ anyC c) ∗ owesE c (O₀ c)
          ∗ tk (peer c, 0) ∗ cr (c, 0) ∗ po (c, 0) ∗ tk (c, 2) ∗ tk (peer c, 6) ∗ ptRs m c ∗ holds xStg c fullShare (xAt m c))
        ∗ ((zr (c, 0) ∗ anyX (peer c) c ∗ anyG (peer c) c ∗ anyC (peer c) ∗ owesE c (Ox c) ∗ cr (c, 2) ∗ holds xStg c fullShare (xAt m c))
            -∗ Q ⟨c, ixw c, iyw c, izw c, oxw c, oxw c, xAt m c⟩))
      ⊢ WP c (part1 (F := F)) Q := by
  unfold part1 WP iyw izw oxw ixw
  rw [k0_part1_eq_skeleton]
  unfold k0_part1_skel
  simp only [semSignalWord, semWaitWord, Prog.lift, Prog.bind_op, Prog.bind_ret, Prog.pure_eq_ret, wp_deviceId]
  iintro ⟨⟨#HR, #Hlev, Hany, HO, HtB, HcB, HaB, HtS, HtR, Hr, Hx⟩, Hk⟩
  iapply (step_signal m K c (dev1_eq c) (by decide) (O1 c)) $$ [Hany HO HtB]
  · isplitr; · iexact HR
    isplitl [Hany]; · unfold payBar; rw [peer_peer]; iexact Hany
    isplitl [HO]; · iapply (owes_0 c); iexact HO
    iexact HtB
  iintro HO
  iapply (step_wait m K c 0 rfl (by decide) (wpE_semWait_eq 𝒱₀ (c : Thread nD τ) none Set.univ) (O1 c) (ok1 c 0 (by decide))) $$ [HcB HaB HO]
  · isplitr; · iexact HR
    isplitr; · iexact Hlev
    isplitl [HcB]; · iexact HcB
    isplitl [HaB]; · iexact HaB
    iexact HO
  iintro ⟨Hz, Hp, HO⟩
  ihave Hp' := (show pay m c 0 ⊢ payBar c from BI.Entails.refl _) $$ Hp
  unfold payBar
  icases Hp' with ⟨HX, HRw, HG, HC⟩
  unfold ptRs
  iapply (step_send m K c 2 6 (src := rStg) (dst := winR c) (dev2_eq c) rfl rfl fullShare.left (rAt m c) (cr_R c) rfl (by unfold pay ptRs; exact BI.Entails.refl _)
    (sent_r m c) (Ox c)) $$ [Hr HRw HO HtS HtR]
  · isplitr; · iexact HR
    isplitl [Hr]; · iexact Hr
    isplitl [HRw]; · unfold anyR; iexact HRw
    isplitl [HO]; · iapply (owes_1 c); iexact HO
    isplitl [HtS] <;> iassumption
  iintro ⟨HcS, HO⟩
  iapply (wp_load 𝒱₀ (c : Thread nD τ) none Set.univ (m := xStg) (Finset.subset_univ _)) $$ Hx; iintro Hx
  rw [loads_x, wp_ret]; imodintro
  iapply Hk $$ [Hz HX HG HC HO HcS Hx]
  isplitl [Hz]; · iexact Hz
  isplitl [HX]; · iexact HX
  isplitl [HG]; · iexact HG
  isplitl [HC]; · iexact HC
  isplitl [HO]; · iexact HO
  isplitl [HcS] <;> iassumption

/-! ## Part 2: the token rows sent, the first copy of weights begun -/

/-- The weights at launch. -/
abbrev g1 : Buf (Elt F) ((w1H : Memref sig .tc .hbm S4x1024x2048 .f32).view.loc (c : Thread nD τ)) := m ((c : Thread nD τ).loc main_arg2)
abbrev g2 : Buf (Elt F) ((w2H : Memref sig .tc .hbm S4x2048x1024 .f32).view.loc (c : Thread nD τ)) := m ((c : Thread nD τ).loc main_arg3)

theorem run2 (v2 v5 v8 v9 : BitVec 32) (Q : PUnit → sProp 𝕄) :
    iprop((records m K ∗ anyX c c ∗ anyX (peer c) c ∗ owesE c (Ox c) ∗ tk (c, 1) ∗ tk (peer c, 5) ∗ W1 m c fullShare.left ∗ slack c a0 A0
          ∗ semVal ((c : Thread nD τ), .dma wS00) 0)
        ∗ ((cr (c, 1) ∗ owesE c (O2 c) ∗ flying c wS00 a0 A0 e0 fullShare.left (g1 m c)) -∗ Q ⟨⟩))
      ⊢ WP c (part2 (F := F) c v2 v5 v8 v9 (xAt m c)) Q := by
  unfold part2 WP
  rw [k0_part2_eq_skeleton]
  unfold k0_part2_skel
  simp only [Prog.lift, Prog.bind_op, Prog.bind_ret, Prog.pure_eq_ret]
  unfold anyX
  iintro ⟨⟨#HR, ⟨%f, HX⟩, HXp, HO, Ht1, Ht5, HW, HS, Hz⟩, Hk⟩
  iapply (wp_load_rect 𝒱₀ (c : Thread nD τ) none Set.univ (m := xfM) (r := rX c) (subset_of_eq (b := (winX c).view.set) rfl)) $$ HX; iintro HX
  iapply (wp_store 𝒱₀ (c : Thread nD τ) none Set.univ (m := xfM) (r := rX c) (Mk := Finset.univ) (subset_of_eq (b := (winX c).view.set) rfl)) $$ HX; iintro HX
  ihave HX' := (kept_x m c f) $$ HX
  unfold ptX
  iapply (step_send m K c 1 5 (src := winX c) (dst := winX c) (dev3_eq c) rfl rfl fullShare (xfAt m c) (cr_X c) rfl (by unfold pay ptX; exact BI.Entails.refl _) (sent_x m c) (O2 c)) $$ [HX' HXp HO Ht1 Ht5]
  · iframe HR HX' HXp Ht1 Ht5; iapply (owes_x c); iexact HO
  iintro ⟨Hc, HO⟩
  iapply (step_fetch c a0_A0 (View.dmaCredit_pos _ (by decide))) $$ [HW HS Hz]
  · iframe HW HS Hz
  iintro HF
  unfold WP
  rw [wp_ret]; imodintro
  iapply Hk
  iframe Hc HO HF

/-! ## Part 3: the other copies begun, the device's own router columns and the counting table stored -/

theorem run3 (v2 : BitVec 32) (Q : IVec S1024x1024 32 → sProp 𝕄) :
    iprop((W2 m c fullShare.left ∗ slack c b0 B0 ∗ semVal ((c : Thread nD τ), .dma wS01) 0
          ∗ W1 m c fullShare.right ∗ slack c a1 A1 ∗ semVal ((c : Thread nD τ), .dma wS10) 0
          ∗ W2 m c fullShare.right ∗ slack c b1 B1 ∗ semVal ((c : Thread nD τ), .dma wS11) 0
          ∗ holds rStg c fullShare.right (rAt m c) ∗ anyR c c ∗ (∃ f, holds trM c fullShare f))
        ∗ ((flying c wS01 b0 B0 f0 fullShare.left (g2 m c) ∗ flying c wS10 a1 A1 e1 fullShare.right (g1 m c)
            ∗ flying c wS11 b1 B1 f1 fullShare.right (g2 m c) ∗ holds rStg c fullShare.right (rAt m c) ∗ ptR m c c
            ∗ (∃ f, holds trM c fullShare (((trM : Memref sig .tc .vmem S2x1024x1024 .f32).access rT0).write (Elt F) f k0_pay4 Finset.univ)))
            -∗ Q k0_pay5))
      ⊢ WP c (part3 (F := F) c v2) Q := by
  unfold part3 WP
  rw [k0_part3_eq_skeleton]
  unfold k0_part3_skel
  simp only [Prog.lift, Prog.bind_op, Prog.bind_ret, Prog.pure_eq_ret]
  unfold anyR
  iintro ⟨⟨HW1, HS1, Hz1, HW2, HS2, Hz2, HW3, HS3, Hz3, Hr, ⟨%f, HR⟩, ⟨%t, HT⟩⟩, Hk⟩
  iapply (step_fetch c b0_B0 (View.dmaCredit_pos _ (by decide))) $$ [HW1 HS1 Hz1]
  · iframe HW1 HS1 Hz1
  iintro HF1
  iapply (step_fetch c a1_A1 (View.dmaCredit_pos _ (by decide))) $$ [HW2 HS2 Hz2]
  · iframe HW2 HS2 Hz2
  iintro HF2
  iapply (step_fetch c b1_B1 (View.dmaCredit_pos _ (by decide))) $$ [HW3 HS3 Hz3]
  · iframe HW3 HS3 Hz3
  iintro HF3
  iapply (wp_load 𝒱₀ (c : Thread nD τ) none Set.univ (m := rStg) (Finset.subset_univ _)) $$ Hr; iintro Hr
  rw [loads_r]
  iapply (wp_load_rect 𝒱₀ (c : Thread nD τ) none Set.univ (m := rsM) (r := rR c) (S := (winR c).view.set) (subset_of_eq (View.set_reshape (slotR c).view squeezes_S1x1024x4_S1024x4.numel_eq).symm)) $$ HR; iintro HR
  iapply (wp_store 𝒱₀ (c : Thread nD τ) none Set.univ (m := rsM) (r := rR c) (Mk := Finset.univ) (S := (winR c).view.set) (subset_of_eq (View.set_reshape (slotR c).view squeezes_S1x1024x4_S1024x4.numel_eq).symm)) $$ HR; iintro HR
  ihave HR' := (kept_r m c f) $$ HR
  iapply (wp_load 𝒱₀ (c : Thread nD τ) none Set.univ (m := trM) (Finset.subset_univ _)) $$ HT; iintro HT
  iapply (wp_store 𝒱₀ (c : Thread nD τ) none Set.univ (m := trM) (r := rT0) (Mk := Finset.univ) (Finset.subset_univ _)) $$ HT; iintro HT
  rw [wp_ret]; imodintro
  iapply Hk
  iframe HF1 HF2 HF3 Hr HR'
  iexists t; iexact HT

/-! ## Part 4: the identity stored, the peer's router columns awaited, the gates computed -/

/-- The tables once stored. -/
abbrev tri (t : (cc0_scratch2 : Ref sig .tc).ty.Contents (Elt F)) : (cc0_scratch2 : Ref sig .tc).ty.Contents (Elt F) :=
  ((trM : Memref sig .tc .vmem S2x1024x1024 .f32).access rT1).write (Elt F)
    (((trM : Memref sig .tc .vmem S2x1024x1024 .f32).access rT0).write (Elt F) t k0_pay4 Finset.univ) (k0_pay6 k0_pay5) Finset.univ

theorem run4 (v5 v8 v9 : BitVec 32) (Q : FVec F S512x8 .f32 → sProp 𝕄) :
    iprop((records m K ∗ levAts L lv
          ∗ (∃ f, holds trM c fullShare (((trM : Memref sig .tc .vmem S2x1024x1024 .f32).access rT0).write (Elt F) f k0_pay4 Finset.univ))
          ∗ owesE c (O2 c) ∗ cr (c, 2) ∗ po (c, 2) ∗ cr (c, 6) ∗ po (c, 6) ∗ holds xStg c fullShare (xAt m c) ∗ ptR m c c)
        ∗ (((∃ f, holds trM c fullShare (tri f)) ∗ owesE c (O2 c) ∗ zr (c, 2) ∗ zr (c, 6) ∗ holds xStg c fullShare (xAt m c)
            ∗ ptRs m c ∗ holds rsM c fullShare (rsAt m c))
            -∗ Q (k0_pay7 (xAt m c) (rslot m c 0) (xAt m c) (rslot m c 1))))
      ⊢ WP c (part4 (F := F) c v5 v8 v9 k0_pay5) Q := by
  unfold part4 WP
  rw [k0_part4_eq_skeleton]
  unfold k0_part4_skel
  simp only [Prog.lift, Prog.bind_op, Prog.bind_ret, Prog.pure_eq_ret]
  iintro ⟨⟨#HR, #Hlev, ⟨%t, HT⟩, HO, Hc2, Hp2, Hc6, Hp6, Hx, Hown⟩, Hk⟩
  iapply (wp_load 𝒱₀ (c : Thread nD τ) none Set.univ (m := trM) (Finset.subset_univ _)) $$ HT; iintro HT
  iapply (wp_store 𝒱₀ (c : Thread nD τ) none Set.univ (m := trM) (r := rT1) (Mk := Finset.univ) (Finset.subset_univ _)) $$ HT; iintro HT
  iapply (step_wait m K c 2 rfl cr_rs (wpE_waitDma2_eq 𝒱₀ (c : Thread nD τ) none Set.univ) (O2 c) (ok2 c 2 (by decide))) $$ [Hc2 Hp2 HO]
  · iframe HR Hlev Hc2 Hp2 HO
  iintro ⟨Hz2, Hrs, HO⟩
  iapply (step_wait m K c 6 rfl (cr_R c) (wpE_waitDma2_eq 𝒱₀ (c : Thread nD τ) none Set.univ) (O2 c) (ok2 c 6 (by decide))) $$ [Hc6 Hp6 HO]
  · iframe HR Hlev Hc6 Hp6 HO
  iintro ⟨Hz6, Hpeer, HO⟩
  ihave Hpeer' := (show pay m c 6 ⊢ ptR m c (peer c) from BI.Entails.refl _) $$ Hpeer
  ihave Hrs' := (show pay m c 2 ⊢ ptRs m c from BI.Entails.refl _) $$ Hrs
  ihave Hw := (whole_r m c) $$ [Hown Hpeer']
  · iframe Hown Hpeer'
  iapply (wp_load 𝒱₀ (c : Thread nD τ) none Set.univ (m := xStg) (Finset.subset_univ _)) $$ Hx; iintro Hx
  iapply (wp_load 𝒱₀ (c : Thread nD τ) none Set.univ (m := rsM) (Finset.subset_univ _)) $$ Hw; iintro Hw
  iapply (wp_load 𝒱₀ (c : Thread nD τ) none Set.univ (m := xStg) (Finset.subset_univ _)) $$ Hx; iintro Hx
  iapply (wp_load 𝒱₀ (c : Thread nD τ) none Set.univ (m := rsM) (Finset.subset_univ _)) $$ Hw; iintro Hw
  rw [loads_x, read_rs m c 0, read_rs m c 1, wp_ret]; imodintro
  iapply Hk
  iframe HO Hz2 Hz6 Hx Hrs' Hw
  iexists t; iexact HT

/-! ## Part 5: the gates sent -/

theorem run5 (v2 v5 v8 v9 : BitVec 32) (Q : PUnit → sProp 𝕄) :
    iprop((records m K ∗ levAts L lv ∗ anyG c c ∗ anyG (peer c) c ∗ owesE c (O2 c) ∗ tk (c, 3) ∗ tk (peer c, 7) ∗ cr (c, 1) ∗ po (c, 1))
        ∗ ((cr (c, 3) ∗ owesE c (O3 c) ∗ zr (c, 1) ∗ ptX m c c) -∗ Q ⟨⟩))
      ⊢ WP c (part5 (F := F) c v2 v5 v8 v9 (k0_pay7 (xAt m c) (rslot m c 0) (xAt m c) (rslot m c 1))) Q := by
  unfold part5 WP
  rw [k0_part5_eq_skeleton]
  unfold k0_part5_skel
  simp only [Prog.lift, Prog.bind_op, Prog.bind_ret, Prog.pure_eq_ret]
  unfold anyG
  iintro ⟨⟨#HR, #Hlev, ⟨%f, HG⟩, HGp, HO, Ht3, Ht7, Hc1, Hp1⟩, Hk⟩
  iapply (wp_load_rect 𝒱₀ (c : Thread nD τ) none Set.univ (m := gM) (r := rG c) (subset_of_eq (b := (winG c).view.set) rfl)) $$ HG; iintro HG
  iapply (wp_store 𝒱₀ (c : Thread nD τ) none Set.univ (m := gM) (r := rG c) (Mk := Finset.univ) (subset_of_eq (b := (winG c).view.set) rfl)) $$ HG; iintro HG
  ihave HG' := (kept_g m c f) $$ HG
  unfold ptG
  iapply (step_send m K c 3 7 (src := winG c) (dst := winG c) (dev4_eq c) rfl rfl fullShare (gAt m c) (cr_G c) rfl (by unfold pay ptG; exact BI.Entails.refl _) (sent_g m c) (O3 c)) $$ [HG' HGp HO Ht3 Ht7]
  · iframe HR HG' HGp Ht3 Ht7; iapply (owes_2 c); iexact HO
  iintro ⟨Hc3, HO⟩
  iapply (step_wait m K c 1 rfl (cr_X c) (wpE_waitDma2_eq 𝒱₀ (c : Thread nD τ) none Set.univ) (O3 c) (ok3 c 1 (by decide))) $$ [Hc1 Hp1 HO]
  · iframe HR Hlev Hc1 Hp1 HO
  iintro ⟨Hz1, Hx, HO⟩
  unfold WP
  rw [wp_ret]; imodintro
  iapply Hk
  iframe Hc3 HO Hz1
  iapply (show pay m c 1 ⊢ ptX m c c from BI.Entails.refl _); iexact Hx

/-! ## Part 6: the peer's token rows and gates awaited, the best two of each token's gates found -/

theorem run6 (v5 v8 v9 : BitVec 32) (Q : (Σ' (v171 : FVec F S1024x1 .f32) (v177 : IVec S1024x1 32) (v183 : FVec F S1024x1 .f32), IVec S1024x8 32) → sProp 𝕄) :
    iprop((records m K ∗ levAts L lv ∗ owesE c (O3 c) ∗ ptX m c c ∗ cr (c, 5) ∗ po (c, 5) ∗ cr (c, 3) ∗ po (c, 3) ∗ cr (c, 7) ∗ po (c, 7))
        ∗ ((owesE c (O3 c) ∗ zr (c, 5) ∗ zr (c, 3) ∗ zr (c, 7) ∗ holds xfM c fullShare (xfAt m c) ∗ holds gM c fullShare (gAt m c))
            -∗ Q ⟨k0_pay9 (gAt m c), k0_pay10 (gAt m c), k0_pay12 (gAt m c), k0_pay13 (gAt m c)⟩))
      ⊢ WP c (part6 (F := F) c v5 v8 v9) Q := by
  unfold part6 WP
  rw [k0_part6_eq_skeleton]
  unfold k0_part6_skel
  simp only [Prog.lift, Prog.bind_op, Prog.bind_ret, Prog.pure_eq_ret]
  iintro ⟨⟨#HR, #Hlev, HO, Hx, Hc5, Hp5, Hc3, Hp3, Hc7, Hp7⟩, Hk⟩
  iapply (step_wait m K c 5 rfl (cr_X c) (wpE_waitDma2_eq 𝒱₀ (c : Thread nD τ) none Set.univ) (O3 c) (ok3 c 5 (by decide))) $$ [Hc5 Hp5 HO]
  · iframe HR Hlev Hc5 Hp5 HO
  iintro ⟨Hz5, Hx', HO⟩
  ihave Hx2 := (show pay m c 5 ⊢ ptX m c (peer c) from BI.Entails.refl _) $$ Hx'
  ihave Hxf := (whole_x m c) $$ [Hx Hx2]
  · iframe Hx Hx2
  iapply (step_wait m K c 3 rfl (cr_G c) (wpE_waitDma2_eq 𝒱₀ (c : Thread nD τ) none Set.univ) (O3 c) (ok3 c 3 (by decide))) $$ [Hc3 Hp3 HO]
  · iframe HR Hlev Hc3 Hp3 HO
  iintro ⟨Hz3, Hg, HO⟩
  ihave Hg' := (show pay m c 3 ⊢ ptG m c c from BI.Entails.refl _) $$ Hg
  iapply (step_wait m K c 7 rfl (cr_G c) (wpE_waitDma2_eq 𝒱₀ (c : Thread nD τ) none Set.univ) (O3 c) (ok3 c 7 (by decide))) $$ [Hc7 Hp7 HO]
  · iframe HR Hlev Hc7 Hp7 HO
  iintro ⟨Hz7, Hh, HO⟩
  ihave Hh' := (show pay m c 7 ⊢ ptG m c (peer c) from BI.Entails.refl _) $$ Hh
  ihave Hgw := (whole_g m c) $$ [Hg' Hh']
  · iframe Hg' Hh'
  iapply (wp_load 𝒱₀ (c : Thread nD τ) none Set.univ (m := gM) (Finset.subset_univ _)) $$ Hgw; iintro Hgw
  rw [loads_g, wp_ret]; imodintro
  iapply Hk
  iframe HO Hz5 Hz3 Hz7 Hxf Hgw

/-! ## Part 7: the combine weights and the running counts, by the tables -/

theorem run7 (Q : (Σ' (v220 : FVec F S4x1024 .f32) (v226 : FVec F S4x1024 .f32), IVec S4x1024 1) → sProp 𝕄) :
    iprop((∃ f, holds trM c fullShare (tri f)) ∗ ((∃ f, holds trM c fullShare f) -∗ Q ⟨cwAt m c, cntAt m c, hitAt m c⟩))
      ⊢ WP c (part7 (F := F) (ixw c) (k0_pay9 (gAt m c)) (k0_pay10 (gAt m c)) (k0_pay12 (gAt m c)) (k0_pay13 (gAt m c))) Q := by
  unfold part7 WP
  rw [k0_part7_eq_skeleton]
  unfold k0_part7_skel cwAt cntAt hitAt
  simp only [Prog.lift, Prog.bind_op, Prog.bind_ret, Prog.pure_eq_ret]
  iintro ⟨⟨%t, HT⟩, Hk⟩
  iapply (wp_load 𝒱₀ (c : Thread nD τ) none Set.univ (m := trM) (Finset.subset_univ _)) $$ HT; iintro HT
  iapply (wp_load 𝒱₀ (c : Thread nD τ) none Set.univ (m := trM) (Finset.subset_univ _)) $$ HT; iintro HT
  iapply (wp_load 𝒱₀ (c : Thread nD τ) none Set.univ (m := trM) (Finset.subset_univ _)) $$ HT; iintro HT
  rw [read_tri1, read_tri0, wp_ret]; imodintro
  iapply Hk
  iexists (tri t); iexact HT

end Cert.Moe

end
-- ==== Proof.Back.lean ====
/-
  THE BODY, SECOND HALF: the four experts, each weight block copied ahead of its use into one of two slots; the other half of
  the partial outputs sent to the peer, the peer's added to the half kept.
-/
module

public import proofs.«01_k».proof.Proof.Front

@[expose] public section

noncomputable section

namespace Cert.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 9 → ℕ) (c : Dev nD)

/-! ## A weight block loaded from its slot -/

theorem step_w1 (e : Fin 4) {off offe : Fin 3 → ℕ} (inb : ∀ a, off a + S1x1024x2048.size a ≤ S2x1024x2048.size a)
    (inbe : ∀ a, offe a + S1x1024x2048.size a ≤ S4x1024x2048.size a) (he : offe = ![e.val, 0, 0])
    {S : Finset S2x1024x2048.Idx} (hS : (w1Slot off inb).view.set ⊆ S)
    {hl : (w1M : Memref sig .tc .vmem S2x1024x2048 .f32).view.LoadsAt (Rect.unit (s := S2x1024x2048) off S1x1024x2048.size inb).toLoadRect}
    {α : Type} {Q : α → sProp 𝕄} {p : Vec F S1x1024x2048 .f32 → Prog (TpuEff nD τ sig (Elt F) Λ₀ .tc) α} :
    filled c (w1Slot off inb) S (w1Blk offe inbe) (g1 m c)
      ⊢ iprop((filled c (w1Slot off inb) S (w1Blk offe inbe) (g1 m c) -∗ WP c (p (w1At m c e)) Q)
          -∗ WP c (.op (.load w1M (Rect.unit (s := S2x1024x2048) off S1x1024x2048.size inb).toLoadRect hl) p) Q) := by
  unfold filled
  iintro ⟨%f, H⟩ Hk
  iapply (wp_load_rect 𝒱₀ (c : Thread nD τ) none Set.univ (m := w1M) (r := Rect.unit (s := S2x1024x2048) off S1x1024x2048.size inb) (S := S)
    ((subset_of_eq (View.set_reshape _ squeezes_S1x1024x2048_S1024x2048.numel_eq).symm).trans hS)) $$ H; iintro H
  rw [← View.readAt_rect, read_w1 m c e inb inbe he f ReadAs.same rfl]
  iapply Hk
  iexists f; iexact H

theorem step_w2 (e : Fin 4) {off offe : Fin 3 → ℕ} (inb : ∀ a, off a + S1x2048x1024.size a ≤ S2x2048x1024.size a)
    (inbe : ∀ a, offe a + S1x2048x1024.size a ≤ S4x2048x1024.size a) (he : offe = ![e.val, 0, 0])
    {S : Finset S2x2048x1024.Idx} (hS : (w2Slot off inb).view.set ⊆ S)
    {hl : (w2M : Memref sig .tc .vmem S2x2048x1024 .f32).view.LoadsAt (Rect.unit (s := S2x2048x1024) off S1x2048x1024.size inb).toLoadRect}
    {α : Type} {Q : α → sProp 𝕄} {p : Vec F S1x2048x1024 .f32 → Prog (TpuEff nD τ sig (Elt F) Λ₀ .tc) α} :
    filled c (w2Slot off inb) S (w2Blk offe inbe) (g2 m c)
      ⊢ iprop((filled c (w2Slot off inb) S (w2Blk offe inbe) (g2 m c) -∗ WP c (p (w2At m c e)) Q)
          -∗ WP c (.op (.load w2M (Rect.unit (s := S2x2048x1024) off S1x2048x1024.size inb).toLoadRect hl) p) Q) := by
  unfold filled
  iintro ⟨%f, H⟩ Hk
  iapply (wp_load_rect 𝒱₀ (c : Thread nD τ) none Set.univ (m := w2M) (r := Rect.unit (s := S2x2048x1024) off S1x2048x1024.size inb) (S := S)
    ((subset_of_eq (View.set_reshape _ squeezes_S1x2048x1024_S2048x1024.numel_eq).symm).trans hS)) $$ H; iintro H
  rw [← View.readAt_rect, read_w2 m c e inb inbe he f ReadAs.same rfl]
  iapply Hk
  iexists f; iexact H

theorem slack_of {e : EltTy} {s : Shape} (slot : Memref sig .tc .vmem s e) (S : Finset (Idx (slot.view.loc (c : Thread nD τ))))
    (blk : Memref sig .tc .hbm s e) (g : Buf (Elt F) (blk.view.loc (c : Thread nD τ))) : filled c slot S blk g ⊢ slack c slot S := by
  unfold filled
  iintro ⟨%f, H⟩
  iexists _; iexact H

abbrev s00 : sProp 𝕄 := semVal ((c : Thread nD τ), .dma wS00) 0
abbrev s01 : sProp 𝕄 := semVal ((c : Thread nD τ), .dma wS01) 0
abbrev s10 : sProp 𝕄 := semVal ((c : Thread nD τ), .dma wS10) 0
abbrev s11 : sProp 𝕄 := semVal ((c : Thread nD τ), .dma wS11) 0

theorem ok3' : ∀ g u, 0 < O3 c g u → ∃ j, g = kcell (peer c, j) ∧ 0 < lvk j := O3_pos (by decide)

/-! ## Part 8: the first expert's blocks arrive -/

theorem run8 (Q : (Σ' (v233 : IVec S4x1024 32) (v234 : IVec S320x1024 32) (v235 : FVec F S1024x1024 .f32) (v255 : FVec F S320x1024 .f32) (v258 : FVec F S320x1024 .f32) (v260 : FVec F S1024x2048 .f32), FVec F S320x2048 .f32) → sProp 𝕄) :
    iprop((levAts L lv ∗ flying c wS00 a0 A0 e0 fullShare.left (g1 m c) ∗ flying c wS01 b0 B0 f0 fullShare.left (g2 m c) ∗ owesE c (O3 c)
          ∗ holds xfM c fullShare (xfAt m c))
        ∗ ((filled c a0 A0 e0 (g1 m c) ∗ W1 m c fullShare.left ∗ s00 c ∗ filled c b0 B0 f0 (g2 m c) ∗ W2 m c fullShare.left ∗ s01 c
            ∗ owesE c (O3 c) ∗ holds xfM c fullShare (xfAt m c))
          -∗ Q ⟨posAt m c, lane, k0_pay20, k0_pay22 (cwAt m c) (cntAt m c) (hitAt m c), k0_pay23 (cntAt m c) (hitAt m c) (xfAt m c),
              k0_pay24 (w1At m c 0), constant S320x2048 .f32 0x00000000#32⟩))
      ⊢ WP c (part8 (F := F) (cwAt m c) (cntAt m c) (hitAt m c)) Q := by
  unfold part8 WP posAt lane
  rw [k0_part8_eq_skeleton]
  unfold k0_part8_skel
  simp only [Prog.lift, Prog.bind_op, Prog.bind_ret, Prog.pure_eq_ret]
  iintro ⟨⟨#Hlev, HF1, HF2, HO, Hx⟩, Hk⟩
  iapply (step_arrive c (slot := a0) (blk := e0) rfl (O3 c) (ok3' c) (by decide)) $$ [HF1 HO]
  · iframe Hlev HF1 HO
  iintro ⟨HA, HW1, Hz1, HO⟩
  iapply (step_arrive c (slot := b0) (blk := f0) rfl (O3 c) (ok3' c) (by decide)) $$ [HF2 HO]
  · iframe Hlev HF2 HO
  iintro ⟨HB, HW2, Hz2, HO⟩
  iapply (wp_load 𝒱₀ (c : Thread nD τ) none Set.univ (m := xfM) (Finset.subset_univ _)) $$ Hx; iintro Hx
  rw [loads_xf]
  iapply (step_w1 m c 0 (offe := ![0, 0, 0]) _ _ rfl a0_A0) $$ HA; iintro HA
  unfold WP
  rw [wp_ret]; imodintro
  iapply Hk
  iframe HA HW1 Hz1 HB HW2 Hz2 HO Hx

/-! ## Part 9: the first expert applied; the third's copies begin; the second's first block arrives -/

theorem run9 (Q : FVec F S1024x1024 .f32 → sProp 𝕄) :
    iprop((levAts L lv ∗ filled c a0 A0 e0 (g1 m c) ∗ W1 m c fullShare.left ∗ s00 c ∗ filled c b0 B0 f0 (g2 m c) ∗ W2 m c fullShare.left ∗ s01 c
          ∗ flying c wS10 a1 A1 e1 fullShare.right (g1 m c) ∗ owesE c (O3 c))
        ∗ ((flying c wS00 a0 A0 e2 fullShare.left (g1 m c) ∗ flying c wS01 b0 B0 f2 fullShare.left (g2 m c)
            ∗ filled c a1 A1 e1 (g1 m c) ∗ W1 m c fullShare.right ∗ s10 c ∗ owesE c (O3 c)) -∗ Q (o1At m c)))
      ⊢ WP c (part9 (F := F) k0_pay20 (k0_pay22 (cwAt m c) (cntAt m c) (hitAt m c)) (k0_pay23 (cntAt m c) (hitAt m c) (xfAt m c))
          (k0_pay24 (w1At m c 0)) (constant S320x2048 .f32 0x00000000#32)) Q := by
  unfold part9 WP o1At
  rw [k0_part9_eq_skeleton]
  unfold k0_part9_skel
  simp only [Prog.lift, Prog.bind_op, Prog.bind_ret, Prog.pure_eq_ret]
  iintro ⟨⟨#Hlev, HA, HW1, Hz1, HB, HW2, Hz2, HF, HO⟩, Hk⟩
  iapply (step_w2 m c 0 (offe := ![0, 0, 0]) _ _ rfl b0_B0) $$ HB; iintro HB
  ihave HA' := (slack_of c a0 A0 e0 (g1 m c)) $$ HA
  ihave HB' := (slack_of c b0 B0 f0 (g2 m c)) $$ HB
  iapply (step_fetch c (blk := e2) a0_A0 (View.dmaCredit_pos _ (by decide))) $$ [HW1 HA' Hz1]
  · iframe HW1 HA' Hz1
  iintro HF1
  iapply (step_fetch c (blk := f2) b0_B0 (View.dmaCredit_pos _ (by decide))) $$ [HW2 HB' Hz2]
  · iframe HW2 HB' Hz2
  iintro HF2
  iapply (step_arrive c (slot := a1) (blk := e1) rfl (O3 c) (ok3' c) (by decide)) $$ [HF HO]
  · iframe Hlev HF HO
  iintro ⟨HA, HW1, Hz1, HO⟩
  unfold WP
  rw [wp_ret]; imodintro
  iapply Hk
  iframe HF1 HF2 HA HW1 Hz1 HO

/-! ## Part 10: the second expert applied -/

theorem run10 (Q : FVec F S1024x1024 .f32 → sProp 𝕄) :
    iprop((levAts L lv ∗ flying c wS11 b1 B1 f1 fullShare.right (g2 m c) ∗ filled c a1 A1 e1 (g1 m c) ∗ owesE c (O3 c)
          ∗ holds xfM c fullShare (xfAt m c))
        ∗ ((slack c a1 A1 ∗ slack c b1 B1 ∗ W2 m c fullShare.right ∗ s11 c ∗ owesE c (O3 c) ∗ holds xfM c fullShare (xfAt m c)) -∗ Q (o2At m c)))
      ⊢ WP c (part10 (F := F) (cwAt m c) (posAt m c) lane (o1At m c)) Q := by
  unfold part10 WP o2At
  rw [k0_part10_eq_skeleton]
  unfold k0_part10_skel
  simp only [Prog.lift, Prog.bind_op, Prog.bind_ret, Prog.pure_eq_ret]
  iintro ⟨⟨#Hlev, HF, HA, HO, Hx⟩, Hk⟩
  iapply (step_arrive c (slot := b1) (blk := f1) rfl (O3 c) (ok3' c) (by decide)) $$ [HF HO]
  · iframe Hlev HF HO
  iintro ⟨HB, HW, Hz, HO⟩
  iapply (wp_load 𝒱₀ (c : Thread nD τ) none Set.univ (m := xfM) (Finset.subset_univ _)) $$ Hx; iintro Hx
  rw [loads_xf]
  iapply (step_w1 m c 1 (offe := ![1, 0, 0]) _ _ rfl a1_A1) $$ HA; iintro HA
  iapply (step_w2 m c 1 (offe := ![1, 0, 0]) _ _ rfl b1_B1) $$ HB; iintro HB
  ihave HA' := (slack_of c a1 A1 e1 (g1 m c)) $$ HA
  ihave HB' := (slack_of c b1 B1 f1 (g2 m c)) $$ HB
  unfold WP
  rw [wp_ret]; imodintro
  iapply Hk
  iframe HA' HB' HW Hz HO Hx

/-! ## Part 11: the fourth expert's copies begin; the third's blocks arrive -/

theorem run11 (Q : (Σ' (v345 : FVec F S320x1024 .f32) (v346 : FVec F S320x1024 .bf16), Vec F S1024x1024 .bf16) → sProp 𝕄) :
    iprop((levAts L lv ∗ slack c a1 A1 ∗ W1 m c fullShare.right ∗ s10 c ∗ slack c b1 B1 ∗ W2 m c fullShare.right ∗ s11 c
          ∗ flying c wS00 a0 A0 e2 fullShare.left (g1 m c) ∗ flying c wS01 b0 B0 f2 fullShare.left (g2 m c) ∗ owesE c (O3 c)
          ∗ holds xfM c fullShare (xfAt m c))
        ∗ ((flying c wS10 a1 A1 e3 fullShare.right (g1 m c) ∗ flying c wS11 b1 B1 f3 fullShare.right (g2 m c)
            ∗ filled c a0 A0 e2 (g1 m c) ∗ W1 m c fullShare.left ∗ s00 c ∗ filled c b0 B0 f2 (g2 m c) ∗ W2 m c fullShare.left ∗ s01 c
            ∗ owesE c (O3 c) ∗ holds xfM c fullShare (xfAt m c))
          -∗ Q ⟨k0_pay28 (cwAt m c) (posAt m c) lane, k0_pay29 (posAt m c) lane, xfAt m c⟩))
      ⊢ WP c (part11 (F := F) (cwAt m c) (posAt m c) lane) Q := by
  unfold part11 WP
  rw [k0_part11_eq_skeleton]
  unfold k0_part11_skel
  simp only [Prog.lift, Prog.bind_op, Prog.bind_ret, Prog.pure_eq_ret]
  iintro ⟨⟨#Hlev, HA, HW1, Hz1, HB, HW2, Hz2, HG1, HG2, HO, Hx⟩, Hk⟩
  iapply (step_fetch c (blk := e3) a1_A1 (View.dmaCredit_pos _ (by decide))) $$ [HW1 HA Hz1]
  · iframe HW1 HA Hz1
  iintro HF1
  iapply (step_fetch c (blk := f3) b1_B1 (View.dmaCredit_pos _ (by decide))) $$ [HW2 HB Hz2]
  · iframe HW2 HB Hz2
  iintro HF2
  iapply (step_arrive c (slot := a0) (blk := e2) rfl (O3 c) (ok3' c) (by decide)) $$ [HG1 HO]
  · iframe Hlev HG1 HO
  iintro ⟨HA, HW1, Hz1, HO⟩
  iapply (step_arrive c (slot := b0) (blk := f2) rfl (O3 c) (ok3' c) (by decide)) $$ [HG2 HO]
  · iframe Hlev HG2 HO
  iintro ⟨HB, HW2, Hz2, HO⟩
  iapply (wp_load 𝒱₀ (c : Thread nD τ) none Set.univ (m := xfM) (Finset.subset_univ _)) $$ Hx; iintro Hx
  rw [loads_xf, wp_ret]; imodintro
  iapply Hk
  iframe HF1 HF2 HA HW1 Hz1 HB HW2 Hz2 HO Hx

/-! ## Part 12: the third expert applied; the fourth's blocks arrive -/

theorem run12 (Q : (Σ' (v358 : FVec F S1024x1024 .f32) (v376 : FVec F S320x1024 .f32), FVec F S320x1024 .f32) → sProp 𝕄) :
    iprop((levAts L lv ∗ filled c a0 A0 e2 (g1 m c) ∗ filled c b0 B0 f2 (g2 m c)
          ∗ flying c wS10 a1 A1 e3 fullShare.right (g1 m c) ∗ flying c wS11 b1 B1 f3 fullShare.right (g2 m c) ∗ owesE c (O3 c))
        ∗ ((slack c a0 A0 ∗ slack c b0 B0 ∗ filled c a1 A1 e3 (g1 m c) ∗ W1 m c fullShare.right ∗ s10 c ∗ filled c b1 B1 f3 (g2 m c)
            ∗ W2 m c fullShare.right ∗ s11 c ∗ owesE c (O3 c))
          -∗ Q ⟨o3At m c, k0_pay31 (posAt m c) lane, k0_pay32 (cwAt m c) (posAt m c) lane⟩))
      ⊢ WP c (part12 (F := F) (cwAt m c) (posAt m c) lane (o2At m c) (k0_pay28 (cwAt m c) (posAt m c) lane) (k0_pay29 (posAt m c) lane) (xfAt m c)) Q := by
  unfold part12 WP o3At
  rw [k0_part12_eq_skeleton]
  unfold k0_part12_skel
  simp only [Prog.lift, Prog.bind_op, Prog.bind_ret, Prog.pure_eq_ret]
  iintro ⟨⟨#Hlev, HA, HB, HF1, HF2, HO⟩, Hk⟩
  iapply (step_w1 m c 2 (offe := ![2, 0, 0]) _ _ rfl a0_A0) $$ HA; iintro HA
  iapply (step_w2 m c 2 (offe := ![2, 0, 0]) _ _ rfl b0_B0) $$ HB; iintro HB
  ihave HA' := (slack_of c a0 A0 e2 (g1 m c)) $$ HA
  ihave HB' := (slack_of c b0 B0 f2 (g2 m c)) $$ HB
  iapply (step_arrive c (slot := a1) (blk := e3) rfl (O3 c) (ok3' c) (by decide)) $$ [HF1 HO]
  · iframe Hlev HF1 HO
  iintro ⟨HA, HW1, Hz1, HO⟩
  iapply (step_arrive c (slot := b1) (blk := f3) rfl (O3 c) (ok3' c) (by decide)) $$ [HF2 HO]
  · iframe Hlev HF2 HO
  iintro ⟨HB, HW2, Hz2, HO⟩
  unfold WP
  rw [wp_ret]; imodintro
  iapply Hk
  iframe HA' HB' HA HW1 Hz1 HB HW2 Hz2 HO

end Cert.Moe

end
-- ==== Proof.Tail.lean ====
/-
  THE END OF THE BODY: the last expert, the other half of the partial outputs sent to the peer, the peer's added to the half kept.
-/
module

public import proofs.«01_k».proof.Proof.Back

@[expose] public section

noncomputable section

namespace Cert.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 9 → ℕ) (c : Dev nD)

/-! ## Part 13: the fourth expert applied, the peer's half sent -/

theorem wrote_of (inb) (f w : (cc0_scratch6 : Ref sig .tc).ty.Contents (Elt F)) :
    ((ofM : Memref sig .tc .vmem S1024x1024 .f32).access (Rect.unit (s := S1024x1024) ![0, 0] S1024x1024.size inb) : View sig .tc _ _ _).write (Elt F) f w Finset.univ = w :=
  Memref.write_access_unit_zero_univ (Elt F) cc0_scratch6 hz2 _ f w
theorem wrote_sb (inb) (f w : (cc0_scratch7 : Ref sig .tc).ty.Contents (Elt F)) :
    ((sbM : Memref sig .tc .vmem S512x1024 .bf16).access (Rect.unit (s := S512x1024) ![0, 0] S512x1024.size inb) : View sig .tc _ _ _).write (Elt F) f w Finset.univ = w :=
  Memref.write_access_unit_zero_univ (Elt F) cc0_scratch7 hz2 _ f w
theorem wrote_out (inb) (f w : (cc0_stg2_0 : Ref sig .tc).ty.Contents (Elt F)) :
    ((oStg : Memref sig .tc .vmem S512x1024 .f32).access (Rect.unit (s := S512x1024) ![0, 0] S512x1024.size inb) : View sig .tc _ _ _).write (Elt F) f w Finset.univ = w :=
  Memref.write_access_unit_zero_univ (Elt F) cc0_stg2_0 hz2 _ f w
theorem loads_cm (f : (cc0_scratch8 : Ref sig .tc).ty.Contents (Elt F)) (inb) :
    (cmM : Memref sig .tc .vmem S512x1024 .bf16).view.readAt (Elt F) (Rect.unit (s := S512x1024) ![0, 0] S512x1024.size inb).toLoadRect f = f :=
  Memref.readAt_unit_zero (Elt F) cc0_scratch8 hz2 _ f

/-- The send buffer counts as the buffer it is copied to. -/
theorem cr_S : (sbM : Memref sig .tc .vmem S512x1024 .bf16).view.dmaCredit = amt 4 := by
  show _ = (cmM : Memref sig .tc .vmem S512x1024 .bf16).view.dmaCredit
  decide
theorem cr_C : (cmM : Memref sig .tc .vmem S512x1024 .bf16).view.dmaCredit = amt 8 := rfl

theorem paid_sb : pay m c 4 ⊢ ((sbM : Memref sig .tc .vmem S512x1024 .bf16).view.loc (c : Thread nD τ)
    ↦[(sbM : Memref sig .tc .vmem S512x1024 .bf16).view.set]{fullShare} (sbAt m c : Buf (Elt F) ((sbM : Memref sig .tc .vmem S512x1024 .bf16).view.loc (c : Thread nD τ)))) :=
  BI.Entails.refl _
theorem paid_cm : pay m c 8 ⊢ holds cmM c fullShare (sbAt m (peer c)) := by
  show ptCm m c ⊢ _
  unfold ptCm; rw [View.set_whole]

theorem kept_of : (((ofM : Memref sig .tc .vmem S1024x1024 .f32).access (Rect.unit (s := S1024x1024) ![0, 0] S1024x1024.size inb_S1024x1024_S1024x1024_0_0)).loc (c : Thread nD τ)
      ↦[Finset.univ]{fullShare} (k0_pay33 (o3At m c) (k0_pay31 (posAt m c) lane) (k0_pay32 (cwAt m c) (posAt m c) lane) (xfAt m c) (w1At m c 3) (w2At m c 3)))
    ⊢ holds ofM c fullShare (ofAt m c) := BI.Entails.refl _
theorem kept_sb : (((sbM : Memref sig .tc .vmem S512x1024 .bf16).access (Rect.unit (s := S512x1024) ![0, 0] S512x1024.size inb_S512x1024_S512x1024_0_0)).loc (c : Thread nD τ)
      ↦[Finset.univ]{fullShare} (k0_pay34 ((ofM : Memref sig .tc .vmem S1024x1024 .f32).view.readAt (Elt F) (Rect.unit (s := S1024x1024) (k0_off7 c) S512x1024.size (k0_off7_inb c)).toLoadRect (ofAt m c))))
    ⊢ ptSb m c := by unfold ptSb sbAt; rw [View.set_whole]

theorem sent_c (fd : Buf (Elt F) ((cmM : Memref sig .tc .vmem S512x1024 .bf16).view.loc (peer c : Thread nD τ))) :
    ((cmM : Memref sig .tc .vmem S512x1024 .bf16).view.loc (peer c : Thread nD τ) ↦[(cmM : Memref sig .tc .vmem S512x1024 .bf16).view.set]{fullShare}
      (cmM : Memref sig .tc .vmem S512x1024 .bf16).view.write (Elt F) fd ((sbM : Memref sig .tc .vmem S512x1024 .bf16).view.read (Elt F) (sbAt m c)) Finset.univ)
      ⊢ pay m (peer c) 8 := by
  refine (Entails.of_eq (pointsTo_congr fun i hi => landed_self (cmM : Memref sig .tc .vmem S512x1024 .bf16).view fd (sbAt m c) i hi)).trans ?_
  show _ ⊢ ptCm m (peer c)
  unfold ptCm
  rw [peer_peer]

set_option maxHeartbeats 1600000 in
theorem run13 (v5 v8 v9 v10 : BitVec 32) (Q : (Σ' (v408 : BitVec 32), BitVec 32) → sProp 𝕄) :
    iprop((records m K ∗ levAts L lv ∗ holds xfM c fullShare (xfAt m c) ∗ filled c a1 A1 e3 (g1 m c) ∗ filled c b1 B1 f3 (g2 m c)
          ∗ (∃ f, holds ofM c fullShare f) ∗ (∃ f, holds sbM c fullShare f) ∗ anyC (peer c) ∗ owesE c (O3 c) ∗ tk (c, 4) ∗ tk (peer c, 8) ∗ po (c, 4))
        ∗ ((holds xfM c fullShare (xfAt m c) ∗ slack c a1 A1 ∗ slack c b1 B1 ∗ holds ofM c fullShare (ofAt m c) ∗ ptSb m c ∗ owesE c 0 ∗ zr (c, 4))
          -∗ Q ⟨Scalar.muli v9 16#32, 0#32⟩))
      ⊢ WP c (part13 (F := F) c v5 v8 v9 v10 (o3At m c) (k0_pay31 (posAt m c) lane) (k0_pay32 (cwAt m c) (posAt m c) lane)) Q := by
  unfold part13 WP
  rw [k0_part13_eq_skeleton]
  unfold k0_part13_skel
  simp only [Prog.lift, Prog.bind_op, Prog.bind_ret, Prog.pure_eq_ret]
  iintro ⟨⟨#HR, #Hlev, Hx, HA, HB, ⟨%fo, Ho⟩, ⟨%fs, Hs⟩, HC, HO, Ht4, Ht8, Hp4⟩, Hk⟩
  iapply (wp_load 𝒱₀ (c : Thread nD τ) none Set.univ (m := xfM) (Finset.subset_univ _)) $$ Hx; iintro Hx
  rw [loads_xf]
  iapply (step_w1 m c 3 (offe := ![3, 0, 0]) _ _ rfl a1_A1) $$ HA; iintro HA
  iapply (step_w2 m c 3 (offe := ![3, 0, 0]) _ _ rfl b1_B1) $$ HB; iintro HB
  iapply (wp_load 𝒱₀ (c : Thread nD τ) none Set.univ (m := ofM) (Finset.subset_univ _)) $$ Ho; iintro Ho
  iapply (wp_store 𝒱₀ (c : Thread nD τ) none Set.univ (m := ofM) (r := Rect.unit (s := S1024x1024) ![0, 0] S1024x1024.size inb_S1024x1024_S1024x1024_0_0) (Mk := Finset.univ) (Finset.subset_univ _)) $$ Ho; iintro Ho
  rw [wrote_of]
  ihave Ho' := (kept_of m c) $$ Ho
  iapply (wp_load 𝒱₀ (c : Thread nD τ) none Set.univ (m := ofM) (Finset.subset_univ _)) $$ Ho'; iintro Ho
  iapply (wp_load 𝒱₀ (c : Thread nD τ) none Set.univ (m := sbM) (Finset.subset_univ _)) $$ Hs; iintro Hs
  iapply (wp_store 𝒱₀ (c : Thread nD τ) none Set.univ (m := sbM) (r := Rect.unit (s := S512x1024) ![0, 0] S512x1024.size inb_S512x1024_S512x1024_0_0) (Mk := Finset.univ) (Finset.subset_univ _)) $$ Hs; iintro Hs
  rw [wrote_sb]
  ihave Hs' := (kept_sb m c) $$ Hs
  ihave HA' := (slack_of c a1 A1 e3 (g1 m c)) $$ HA
  ihave HB' := (slack_of c b1 B1 f3 (g2 m c)) $$ HB
  unfold ptSb anyC
  iapply (step_send m K c 4 8 (src := sbM) (dst := cmM) (dev5_eq c) rfl rfl fullShare (sbAt m c) rfl rfl (by unfold pay ptSb; exact BI.Entails.refl _) (sent_c m c) 0) $$ [Hs' HC HO Ht4 Ht8]
  · iframe HR Hs' HC Ht4 Ht8; iapply (owes_3 c); iexact HO
  iintro ⟨Hc4, HO⟩
  iapply (step_wait m K c 4 rfl cr_S (wpE_waitDma2_eq 𝒱₀ (c : Thread nD τ) none Set.univ) 0 (ok0 c (lvk 4))) $$ [Hc4 Hp4 HO]
  · iframe HR Hlev Hc4 Hp4 HO
  iintro ⟨Hz4, Hs, HO⟩
  unfold WP
  rw [wp_ret]; imodintro
  iapply Hk
  iframe Hx HA' HB' Ho HO Hz4
  iapply (paid_sb m c); iexact Hs

/-! ## The end of the body: the peer's half arrives and is added to the half kept -/

/-- What follows the thirteenth part. -/
abbrev tail : Prog (TpuEff nD τ sig (Elt F) Λ₀ .tc) PUnit := do
  Prog.lift (.waitDma2 cc0_scratch13.sem sbM cmM (Memref.isWhole_whole cc0_scratch7).wordExact (Memref.isWhole_whole cc0_scratch8).wordExact)
  let a : Vec F S512x1024 .f32 ← Prog.lift (.load ofM (Rect.unit (s := S1024x1024) (k0_off2 c) S512x1024.size (k0_off2_inb c)).toLoadRect (View.loadsAt_vmem h_S512x1024))
  let b : Vec F S512x1024 .bf16 ← Prog.lift (.load cmM (Rect.unit (s := S512x1024) ![0, 0] S512x1024.size inb_S512x1024_S512x1024_0_0).toLoadRect (View.loadsAt_vmem h_S512x1024))
  let _d : Vec F S512x1024 .f32 ← Prog.lift (.load oStg (Rect.unit (s := S512x1024) ![0, 0] S512x1024.size inb_S512x1024_S512x1024_0_0).toLoadRect (View.loadsAt_vmem h_S512x1024))
  Prog.lift (.store oStg (Rect.unit (s := S512x1024) ![0, 0] S512x1024.size inb_S512x1024_S512x1024_0_0) (k0_pay1 a b) Finset.univ (View.stores_vmem_bits_univ h_S512x1024 rfl) (.inl rfl))
  pure ⟨⟩

theorem run_tail (Q : PUnit → sProp 𝕄) :
    iprop((records m K ∗ levAts L lv ∗ holds ofM c fullShare (ofAt m c) ∗ (∃ f, holds oStg c fullShare f) ∗ owesE c 0 ∗ cr (c, 8) ∗ po (c, 8))
        ∗ ((holds ofM c fullShare (ofAt m c) ∗ holds oStg c fullShare (outAt m c) ∗ holds cmM c fullShare (sbAt m (peer c)) ∗ owesE c 0 ∗ zr (c, 8)) -∗ Q ⟨⟩))
      ⊢ WP c (tail (F := F) c) Q := by
  unfold tail WP
  simp only [Prog.lift, Prog.bind_op, Prog.bind_ret, Prog.pure_eq_ret]
  iintro ⟨⟨#HR, #Hlev, Ho, ⟨%fo, Hw⟩, HO, Hc8, Hp8⟩, Hk⟩
  iapply (step_wait m K c 8 rfl cr_C (wpE_waitDma2_eq 𝒱₀ (c : Thread nD τ) none Set.univ) 0 (ok0 c (lvk 8))) $$ [Hc8 Hp8 HO]
  · iframe HR Hlev Hc8 Hp8 HO
  iintro ⟨Hz8, Hm', HO⟩
  ihave Hm := (paid_cm m c) $$ Hm'
  unfold WP
  iapply (wp_load 𝒱₀ (c : Thread nD τ) none Set.univ (m := ofM) (Finset.subset_univ _)) $$ Ho; iintro Ho
  iapply (wp_load 𝒱₀ (c : Thread nD τ) none Set.univ (m := cmM) (Finset.subset_univ _)) $$ Hm; iintro Hm
  rw [loads_cm]
  iapply (wp_load 𝒱₀ (c : Thread nD τ) none Set.univ (m := oStg) (Finset.subset_univ _)) $$ Hw; iintro Hw
  iapply (wp_store 𝒱₀ (c : Thread nD τ) none Set.univ (m := oStg) (r := Rect.unit (s := S512x1024) ![0, 0] S512x1024.size inb_S512x1024_S512x1024_0_0) (Mk := Finset.univ) (Finset.subset_univ _)) $$ Hw; iintro Hw
  rw [wrote_out, wp_ret]; imodintro
  iapply Hk
  iframe Ho Hm HO Hz8
  iexact Hw

end Cert.Moe

end
-- ==== Proof.Body.lean ====
/-
  THE WHOLE BODY: its thirteen parts and its end in a row, from what a device holds at its start to what it holds at its end.
-/
module

public import proofs.«01_k».proof.Proof.Tail

@[expose] public section

noncomputable section

namespace Cert.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 9 → ℕ) (c : Dev nD)

/-! ## The chain -/

/-- The kernel's body at its buffers. -/
abbrev kernel : Prog (TpuEff nD τ sig (Elt F) Λ₀ .tc) PUnit := cc0__body (F := F) xStg (Memref.isWhole_whole _) rStg (Memref.isWhole_whole _) w1H (Memref.isWhole_whole _) w2H (Memref.isWhole_whole _) oStg (Memref.isWhole_whole _) xfM (Memref.isWhole_whole _) rsM (Memref.isWhole_whole _) trM (Memref.isWhole_whole _) gM (Memref.isWhole_whole _) w1M (Memref.isWhole_whole _) w2M (Memref.isWhole_whole _) ofM (Memref.isWhole_whole _) sbM (Memref.isWhole_whole _) cmM (Memref.isWhole_whole _) cc0_scratch9 cc0_scratch10 cc0_scratch11 cc0_scratch12 cc0_scratch13

/-- The same, part after part. -/
def chain : Prog (TpuEff nD τ sig (Elt F) Λ₀ .tc) PUnit :=
  (part1 (F := F)).bind fun p1 =>
  (part2 (F := F) p1.1 p1.2.1 p1.2.2.1 p1.2.2.2.1 p1.2.2.2.2.1 p1.2.2.2.2.2.2).bind fun _ =>
  (part3 (F := F) p1.1 p1.2.1).bind fun v91 =>
  (part4 (F := F) p1.1 p1.2.2.1 p1.2.2.2.1 p1.2.2.2.2.1 v91).bind fun v120 =>
  (part5 (F := F) p1.1 p1.2.1 p1.2.2.1 p1.2.2.2.1 p1.2.2.2.2.1 v120).bind fun _ =>
  (part6 (F := F) p1.1 p1.2.2.1 p1.2.2.2.1 p1.2.2.2.2.1).bind fun p6 =>
  (part7 (F := F) p1.2.1 p6.1 p6.2.1 p6.2.2.1 p6.2.2.2).bind fun p7 =>
  (part8 (F := F) p7.1 p7.2.1 p7.2.2).bind fun p8 =>
  (part9 (F := F) p8.2.2.1 p8.2.2.2.1 p8.2.2.2.2.1 p8.2.2.2.2.2.1 p8.2.2.2.2.2.2).bind fun v268 =>
  (part10 (F := F) p7.1 p8.1 p8.2.1 v268).bind fun v313 =>
  (part11 (F := F) p7.1 p8.1 p8.2.1).bind fun p11 =>
  (part12 (F := F) p7.1 p8.1 p8.2.1 v313 p11.1 p11.2.1 p11.2.2).bind fun p12 =>
  (part13 (F := F) p1.1 p1.2.2.1 p1.2.2.2.1 p1.2.2.2.2.1 p1.2.2.2.2.2.1 p12.1 p12.2.1 p12.2.2).bind fun _ =>
  tail (F := F) p1.1

set_option maxRecDepth 65536 in
theorem kernel_eq : kernel (F := F) = chain := by unfold kernel; rw [cc0__body_eq_skeleton]; rfl

theorem WP_bind {α β : Type} (p : Prog (TpuEff nD τ sig (Elt F) Λ₀ .tc) α) (k : α → Prog (TpuEff nD τ sig (Elt F) Λ₀ .tc) β) (Q : β → sProp 𝕄) :
    WP c (p.bind k) Q = WP c p fun a => WP c (k a) Q := by
  unfold WP; exact wp_bind ..

/-- What a device's body starts from, -/
def bodyStart : sProp 𝕄 :=
  iprop(records m K ∗ levAts L lv ∗ owesE c (O₀ c)
      ∗ (anyX c (peer c) ∗ anyR c (peer c) ∗ anyG c (peer c) ∗ anyC c) ∗ (anyX c c ∗ anyR c c ∗ anyG c c)
      ∗ (tk (peer c, 0) ∗ tk (c, 1) ∗ tk (c, 2) ∗ tk (c, 3) ∗ tk (c, 4) ∗ tk (peer c, 5) ∗ tk (peer c, 6) ∗ tk (peer c, 7) ∗ tk (peer c, 8))
      ∗ (po (c, 0) ∗ po (c, 1) ∗ po (c, 2) ∗ po (c, 3) ∗ po (c, 4) ∗ po (c, 5) ∗ po (c, 6) ∗ po (c, 7) ∗ po (c, 8))
      ∗ (cr (c, 0) ∗ cr (c, 5) ∗ cr (c, 6) ∗ cr (c, 7) ∗ cr (c, 8))
      ∗ (s00 c ∗ s01 c ∗ s10 c ∗ s11 c)
      ∗ (holds xStg c fullShare (xAt m c) ∗ ptRs m c ∗ holds rStg c fullShare.right (rAt m c) ∗ ∃ f, holds oStg c fullShare f)
      ∗ (W1 m c fullShare.left ∗ W1 m c fullShare.right ∗ W2 m c fullShare.left ∗ W2 m c fullShare.right)
      ∗ (slack c a0 A0 ∗ slack c a1 A1 ∗ slack c b0 B0 ∗ slack c b1 B1)
      ∗ (∃ f, holds trM c fullShare f) ∗ (∃ f, holds ofM c fullShare f) ∗ ∃ f, holds sbM c fullShare f)
/-- and what it ends with. -/
def bodyEnd : sProp 𝕄 :=
  iprop(owesE c 0
      ∗ (zr (c, 0) ∗ zr (c, 1) ∗ zr (c, 2) ∗ zr (c, 3) ∗ zr (c, 4) ∗ zr (c, 5) ∗ zr (c, 6) ∗ zr (c, 7) ∗ zr (c, 8))
      ∗ (s00 c ∗ s01 c ∗ s10 c ∗ s11 c)
      ∗ (holds xStg c fullShare (xAt m c) ∗ ptRs m c ∗ holds rStg c fullShare.right (rAt m c) ∗ holds oStg c fullShare (outAt m c))
      ∗ (W1 m c fullShare.left ∗ W1 m c fullShare.right ∗ W2 m c fullShare.left ∗ W2 m c fullShare.right)
      ∗ (slack c a0 A0 ∗ slack c a1 A1 ∗ slack c b0 B0 ∗ slack c b1 B1)
      ∗ (∃ f, holds trM c fullShare f) ∗ holds xfM c fullShare (xfAt m c) ∗ holds rsM c fullShare (rsAt m c) ∗ holds gM c fullShare (gAt m c)
      ∗ holds ofM c fullShare (ofAt m c) ∗ ptSb m c ∗ holds cmM c fullShare (sbAt m (peer c)))

theorem run_body (Q : PUnit → sProp 𝕄) : iprop(bodyStart m K c ∗ (bodyEnd m c -∗ Q ⟨⟩)) ⊢ WP c (kernel (F := F)) Q := by
  rw [kernel_eq]
  unfold chain bodyStart
  iintro ⟨⟨#HR, #Hlev, HO, ⟨HXp, HRp, HGp, HC⟩, ⟨HX, HRc, HG⟩, ⟨T0, T1, T2, T3, T4, T5, T6, T7, T8⟩, ⟨P0, P1, P2, P3, P4, P5, P6, P7, P8⟩,
    ⟨C0, C5, C6, C7, C8⟩, ⟨S0, S1, S2, S3⟩, ⟨Hx, Hrs, Hr, Ho⟩, ⟨W1l, W1r, W2l, W2r⟩, ⟨HA0, HA1, HB0, HB1⟩, Htr, Hof, Hsb⟩, Hk⟩
  rw [WP_bind]
  iapply (run1 m K c _)
  isplitl [HXp HRp HGp HC HO T0 C0 P0 T2 T6 Hrs Hx]
  · iframe HR Hlev HXp HRp HGp HC HO T0 C0 P0 T2 T6 Hrs Hx
  iintro ⟨Z0, HXp, HGp, HC, HO, C2, Hx⟩
  rw [WP_bind]
  iapply (run2 m K c _ _ _ _ _)
  isplitl [HX HXp HO T1 T5 W1l HA0 S0]
  · iframe HR HX HXp HO T1 T5 W1l HA0 S0
  iintro ⟨C1, HO, F0⟩
  rw [WP_bind]
  iapply (run3 m c _ _)
  isplitl [W2l HB0 S1 W1r HA1 S2 W2r HB1 S3 Hr HRc Htr]
  · iframe W2l HB0 S1 W1r HA1 S2 W2r HB1 S3 Hr HRc Htr
  iintro ⟨F1, F2, F3, Hr, HRc, Htr⟩
  rw [WP_bind]
  iapply (run4 m K c _ _ _ _)
  isplitl [Htr HO C2 P2 C6 P6 Hx HRc]
  · iframe HR Hlev Htr HO C2 P2 C6 P6 Hx HRc
  iintro ⟨Htr, HO, Z2, Z6, Hx, Hrs, Hrr⟩
  rw [WP_bind]
  iapply (run5 m K c _ _ _ _ _)
  isplitl [HG HGp HO T3 T7 C1 P1]
  · iframe HR Hlev HG HGp HO T3 T7 C1 P1
  iintro ⟨C3, HO, Z1, HX⟩
  rw [WP_bind]
  iapply (run6 m K c _ _ _ _)
  isplitl [HO HX C5 P5 C3 P3 C7 P7]
  · iframe HR Hlev HO HX C5 P5 C3 P3 C7 P7
  iintro ⟨HO, Z5, Z3, Z7, Hxf, Hg⟩
  rw [WP_bind]
  iapply (run7 m c _)
  isplitl [Htr]
  · iframe Htr
  iintro Htr
  rw [WP_bind]
  iapply (run8 m c _)
  isplitl [F0 F1 HO Hxf]
  · iframe Hlev F0 F1 HO Hxf
  iintro ⟨HA0, W1l, S0, HB0, W2l, S1, HO, Hxf⟩
  rw [WP_bind]
  iapply (run9 m c _)
  isplitl [HA0 W1l S0 HB0 W2l S1 F2 HO]
  · iframe Hlev HA0 W1l S0 HB0 W2l S1 F2 HO
  iintro ⟨F0, F1, HA1, W1r, S2, HO⟩
  rw [WP_bind]
  iapply (run10 m c _)
  isplitl [F3 HA1 HO Hxf]
  · iframe Hlev F3 HA1 HO Hxf
  iintro ⟨HA1, HB1, W2r, S3, HO, Hxf⟩
  rw [WP_bind]
  iapply (run11 m c _)
  isplitl [HA1 W1r S2 HB1 W2r S3 F0 F1 HO Hxf]
  · iframe Hlev HA1 W1r S2 HB1 W2r S3 F0 F1 HO Hxf
  iintro ⟨F2, F3, HA0, W1l, S0, HB0, W2l, S1, HO, Hxf⟩
  rw [WP_bind]
  iapply (run12 m c _)
  isplitl [HA0 HB0 F2 F3 HO]
  · iframe Hlev HA0 HB0 F2 F3 HO
  iintro ⟨HA0, HB0, HA1, W1r, S2, HB1, W2r, S3, HO⟩
  rw [WP_bind]
  iapply (run13 m K c _ _ _ _ _)
  isplitl [Hxf HA1 HB1 Hof Hsb HC HO T4 T8 P4]
  · iframe HR Hlev Hxf HA1 HB1 Hof Hsb HC HO T4 T8 P4
  iintro ⟨Hxf, HA1, HB1, Hof, Hsb, HO, Z4⟩
  iapply (run_tail m K c _)
  isplitl [Hof Ho HO C8 P8]
  · iframe HR Hlev Hof Ho HO C8 P8
  iintro ⟨Hof, Ho, Hcm, HO, Z8⟩
  iapply Hk
  unfold bodyEnd
  iframe HO Z0 Z1 Z2 Z3 Z4 Z5 Z6 Z7 Z8 S0 S1 S2 S3 Hx Hrs Hr Ho W1l W1r W2l W2r HA0 HA1 HB0 HB1 Htr Hxf Hrr Hg Hof Hsb Hcm

end Cert.Moe

end
-- ==== Proof.Scratch.lean ====
/-
  THE SCRATCH BUFFERS, fresh: split into the windows and slots that the body uses them by; and put back together after it.
-/
module

public import proofs.«01_k».proof.Proof.Body

@[expose] public section

noncomputable section

namespace Cert.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 9 → ℕ) (c : Dev nD)

/-! ## A buffer in two parts -/

/-- The pieces of a buffer along a set of its elements, each at some contents; -/
theorem part_of {ℓ : Loc nD τ sig} (I J : Finset (Idx ℓ)) (h : J = Finset.univ \ I) (f : Buf (Elt F) ℓ) :
    (ℓ ↦[Finset.univ]{fullShare} f : sProp 𝕄) ⊢ iprop((∃ g, ℓ ↦[I]{fullShare} g) ∗ ∃ g, ℓ ↦[J]{fullShare} g) := by
  subst h
  iintro H
  ihave H := (pointsTo_split_subset (Finset.subset_univ I)).1 $$ H
  icases H with ⟨H1, H2⟩
  isplitl [H1]
  · iexists f; iexact H1
  · iexists f; iexact H2
/-- and the whole again. -/
theorem whole_of {ℓ : Loc nD τ sig} (I J : Finset (Idx ℓ)) (h : J = Finset.univ \ I) :
    iprop((∃ g, ℓ ↦[I]{fullShare} g) ∗ ∃ g, ℓ ↦[J]{fullShare} g) ⊢ (iprop(∃ f, ℓ ↦[Finset.univ]{fullShare} f) : sProp 𝕄) := by
  subst h
  iintro ⟨⟨%g, H1⟩, ⟨%f, H2⟩⟩
  iexists (I.piecewise g f)
  iapply (pointsTo_join_subset (Finset.subset_univ I))
  isplitl [H1] <;> iassumption

theorem open_X (f : Buf (Elt F) ((c : Thread nD τ).loc cc0_scratch0)) :
    (((c : Thread nD τ).loc cc0_scratch0) ↦{fullShare} f : sProp 𝕄) ⊢ iprop(anyX c c ∗ anyX c (peer c)) :=
  part_of (ℓ := (c : Thread nD τ).loc cc0_scratch0) (winX c).view.set (winX (peer c)).view.set (winX_peer c) f
theorem open_R (f : Buf (Elt F) ((c : Thread nD τ).loc cc0_scratch1)) :
    (((c : Thread nD τ).loc cc0_scratch1) ↦{fullShare} f : sProp 𝕄) ⊢ iprop(anyR c c ∗ anyR c (peer c)) :=
  part_of (ℓ := (c : Thread nD τ).loc cc0_scratch1) (winR c).view.set (winR (peer c)).view.set (winR_peer c) f
theorem open_G (f : Buf (Elt F) ((c : Thread nD τ).loc cc0_scratch3)) :
    (((c : Thread nD τ).loc cc0_scratch3) ↦{fullShare} f : sProp 𝕄) ⊢ iprop(anyG c c ∗ anyG c (peer c)) :=
  part_of (ℓ := (c : Thread nD τ).loc cc0_scratch3) (winG c).view.set (winG (peer c)).view.set (winG_peer c) f
theorem open_A (f : Buf (Elt F) ((c : Thread nD τ).loc cc0_scratch4)) :
    (((c : Thread nD τ).loc cc0_scratch4) ↦{fullShare} f : sProp 𝕄) ⊢ iprop(slack c a0 A0 ∗ slack c a1 A1) :=
  part_of (ℓ := (c : Thread nD τ).loc cc0_scratch4) A0 A1 rfl f
theorem open_B (f : Buf (Elt F) ((c : Thread nD τ).loc cc0_scratch5)) :
    (((c : Thread nD τ).loc cc0_scratch5) ↦{fullShare} f : sProp 𝕄) ⊢ iprop(slack c b0 B0 ∗ slack c b1 B1) :=
  part_of (ℓ := (c : Thread nD τ).loc cc0_scratch5) B0 B1 rfl f
theorem close_A : iprop(slack c a0 A0 ∗ slack c a1 A1) ⊢ (iprop(∃ f, ((c : Thread nD τ).loc cc0_scratch4) ↦{fullShare} f) : sProp 𝕄) :=
  whole_of (ℓ := (c : Thread nD τ).loc cc0_scratch4) A0 A1 rfl
theorem close_B : iprop(slack c b0 B0 ∗ slack c b1 B1) ⊢ (iprop(∃ f, ((c : Thread nD τ).loc cc0_scratch5) ↦{fullShare} f) : sProp 𝕄) :=
  whole_of (ℓ := (c : Thread nD τ).loc cc0_scratch5) B0 B1 rfl

theorem open_C (f : Buf (Elt F) ((c : Thread nD τ).loc cc0_scratch8)) :
    (((c : Thread nD τ).loc cc0_scratch8) ↦{fullShare} f : sProp 𝕄) ⊢ anyC c := by
  unfold anyC
  rw [View.set_whole]
  iintro H
  iexists f; iexact H
theorem close_S : ptSb m c ⊢ holds sbM c fullShare (sbAt m c) := by unfold ptSb; rw [View.set_whole]

/-! ## All nine -/

/-- The fresh scratch buffers, as the body takes them. -/
theorem open_scratch : (Pipeline.scopedRest cfg0.spec c : sProp 𝕄) ⊢ iprop((anyX c (peer c) ∗ anyR c (peer c) ∗ anyG c (peer c) ∗ anyC c)
      ∗ (anyX c c ∗ anyR c c ∗ anyG c c) ∗ (slack c a0 A0 ∗ slack c a1 A1 ∗ slack c b0 B0 ∗ slack c b1 B1)
      ∗ (∃ f, holds trM c fullShare f) ∗ (∃ f, holds ofM c fullShare f) ∗ ∃ f, holds sbM c fullShare f) := by
  rw [scopedRest0_eq]
  iintro ⟨⟨%f0, H0⟩, ⟨%f1, H1⟩, H2, ⟨%f3, H3⟩, ⟨%f4, H4⟩, ⟨%f5, H5⟩, H6, H7, ⟨%f8, H8⟩⟩
  ihave H0 := (open_X c f0) $$ H0; icases H0 with ⟨X, X'⟩
  ihave H1 := (open_R c f1) $$ H1; icases H1 with ⟨R, R'⟩
  ihave H3 := (open_G c f3) $$ H3; icases H3 with ⟨G, G'⟩
  ihave H4 := (open_A c f4) $$ H4; icases H4 with ⟨A, A'⟩
  ihave H5 := (open_B c f5) $$ H5; icases H5 with ⟨B, B'⟩
  ihave H8 := (open_C c f8) $$ H8
  iframe X' R' G' H8 X R G A A' B B'
  isplitl [H2]; · iexact H2
  isplitl [H6]; · iexact H6
  iexact H7

/-- What the body leaves, as the launch takes it back. -/
theorem close_scratch : iprop((slack c a0 A0 ∗ slack c a1 A1 ∗ slack c b0 B0 ∗ slack c b1 B1)
      ∗ (∃ f, holds trM c fullShare f) ∗ holds xfM c fullShare (xfAt m c) ∗ holds rsM c fullShare (rsAt m c) ∗ holds gM c fullShare (gAt m c)
      ∗ holds ofM c fullShare (ofAt m c) ∗ ptSb m c ∗ holds cmM c fullShare (sbAt m (peer c)))
    ⊢ (Pipeline.scopedRest cfg0.spec c : sProp 𝕄) := by
  rw [scopedRest0_eq]
  iintro ⟨⟨A, A', B, B'⟩, H2, H0, H1, H3, H6, H7, H8⟩
  ihave H4 := (close_A (F := F) c) $$ [A A']
  · isplitl [A] <;> iassumption
  ihave H5 := (close_B (F := F) c) $$ [B B']
  · isplitl [B] <;> iassumption
  ihave H7 := (close_S m c) $$ H7
  isplitl [H0]; · iexists (xfAt m c); iexact H0
  isplitl [H1]; · iexists (rsAt m c); iexact H1
  isplitl [H2]; · iexact H2
  isplitl [H3]; · iexists (gAt m c); iexact H3
  isplitl [H4]; · iexact H4
  isplitl [H5]; · iexact H5
  isplitl [H6]; · iexists (ofAt m c); iexact H6
  isplitl [H7]; · iexists (sbAt m c); iexact H7
  iexists (sbAt m (peer c)); iexact H8

/-! ## Half shares -/

theorem halve {ℓ : Loc nD τ sig} {I : Finset (Idx ℓ)} {f : Buf (Elt F) ℓ} :
    (ℓ ↦[I]{fullShare} f : sProp 𝕄) ⊣⊢ iprop((ℓ ↦[I]{fullShare.left} f) ∗ ℓ ↦[I]{fullShare.right} f) :=
  pointsTo_share (PosShare.mem_left_op_right fullShare)

theorem open_r : holds rStg c fullShare (rAt m c) ⊢ iprop(ptRs m c ∗ holds rStg c fullShare.right (rAt m c)) := by
  unfold ptRs; rw [View.set_whole]; exact halve.1
theorem close_r : iprop(ptRs m c ∗ holds rStg c fullShare.right (rAt m c)) ⊢ holds rStg c fullShare (rAt m c) := by
  unfold ptRs; rw [View.set_whole]; exact halve.2

end Cert.Moe

end
-- ==== Proof.Fund.lean ====
/-
  THE GHOST STATE AT THE LAUNCH: every cell's round state made and its invariant allocated, the duty tokens dealt to the devices
  that pay, the credit for what the peers owe.
-/
module

public import proofs.«01_k».proof.Proof.Steps

@[expose] public section

noncomputable section

namespace Cert.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The nine, one by one -/

theorem nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## What is made at the launch -/

def cells : Finset (GSem nD τ sig) := Finset.univ.map ⟨kcell, kcell_injective⟩

theorem tok_injective : Function.Injective (fun ck : Dev nD × Fin 9 => ((kcell ck, 0, ()) : GSem nD τ sig × ℕ × Unit)) :=
  fun a b h => kcell_injective (congrArg Prod.fst h)
def toks : Finset (GSem nD τ sig × ℕ × Unit) := Finset.univ.map ⟨_, tok_injective⟩

def u₀ : UU := (initOf (Pipeline.cells cfgs cellOf_inj) (Pipeline.launchToks cfgs cellOf_inj), (initOf cells toks, 1))

/-- What the launch deals device `c`: its nine cells' states, positions and tokens. -/
def G (c : Dev nD) : sProp 𝕄 :=
  iprop((bigSep Finset.univ fun k : Fin 9 => roundState ER (rd m) (kcell (c, k)) 0)
    ∗ (bigSep Finset.univ fun k : Fin 9 => atPos ER (kcell (c, k)) 0 ∅ 0)
    ∗ (bigSep Finset.univ fun k : Fin 9 => reached ER (kcell (c, k)) 0)
    ∗ bigSep Finset.univ fun k : Fin 9 => dutyTok ER (kcell (c, k)) 0 ())

/-- The four weight copies' semaphores of device `c`, at zero. -/
def wsems (c : Dev nD) : sProp 𝕄 :=
  iprop(semVal ((c : Thread nD τ), .dma wS00) 0 ∗ semVal ((c : Thread nD τ), .dma wS01) 0
    ∗ semVal ((c : Thread nD τ), .dma wS10) 0 ∗ semVal ((c : Thread nD τ), .dma wS11) 0)

/-- What a device has when all have been dealt: what every device knows, its own positions, the tokens of the duties that it
    pays, its weight copies' semaphores. -/
def G' (c : Dev nD) : sProp 𝕄 :=
  iprop(∃ K, records m K ∗ (bigSep Finset.univ fun k : Fin 9 => atPos ER (kcell (c, k)) 0 ∅ 0)
    ∗ (bigSep Finset.univ fun k : Fin 9 => dutyTok ER (kcell (payer c k, k)) 0 ()) ∗ wsems c)

theorem over_cells (Φ : GSem nD τ sig → sProp 𝕄) :
    bigSep cells Φ = bigSep Finset.univ fun c : Dev nD => bigSep Finset.univ fun k : Fin 9 => Φ (kcell (c, k)) := by
  unfold cells; rw [bigSep_map, bigSep_univ_prod]; rfl
theorem over_toks : bigSep toks (fun x => (dutyTok ER x.1 x.2.1 x.2.2 : sProp 𝕄))
    = bigSep Finset.univ fun c : Dev nD => bigSep Finset.univ fun k : Fin 9 => dutyTok ER (kcell (c, k)) 0 () := by
  unfold toks; rw [bigSep_map, bigSep_univ_prod]; rfl

theorem fund_cells : BI.own (ER (initOf cells toks)) ⊢ (|==> bigSep Finset.univ (G m) : sProp 𝕄) := by
  iintro H
  imod (Rounds.fund ER (rd m) cells toks) $$ H with ⟨Hst, Hr, Hat, Htok⟩
  imodintro
  ihave Hst := (Entails.of_eq (over_cells fun g => roundState ER (rd m) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  unfold G; simp only [bigSep_sep']
  iframe Hst Hat Hr Htok

theorem fund : (ownU u₀ : sProp 𝕄) ⊢ |={Set.univ}=> iprop(BI.own (EP (initOf (Pipeline.cells cfgs cellOf_inj) (Pipeline.launchToks cfgs cellOf_inj)))
    ∗ bigSep Finset.univ (G m)) := by
  have h2 : (BI.own (embR (initOf cells toks, (1 : Counters))) : sProp 𝕄) ⊢ BI.own (ER (initOf cells toks)) := BI.Entails.refl _
  unfold u₀
  iintro Hu
  ihave H := (ownU_pair _ _) $$ Hu
  icases H with ⟨HP, HX⟩
  ihave HX := (h2) $$ HX
  imod (fund_cells m) $$ HX with HG
  imodintro
  isplitl [HP] <;> iassumption

/-! ## The semaphores -/

/-- The kernel's own semaphores: its cells', without the barrier, and the weight copies'. -/
def osem : Fin 12 → SemLoc sig := ![.dma sndX, .dma sndR, .dma sndG, .dma sndC, .dma rcvX, .dma rcvR, .dma rcvG, .dma rcvC,
  .dma wS00, .dma wS01, .dma wS10, .dma wS11]

theorem ownSemFacts : Pipeline.OwnSemFacts cfg0.spec osem := by decide

theorem own_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ wsems c) := by
  rw [Pipeline.ownSems0_eq_of_list c osem [0, 1, 2, 3, 4, 5, 6, 7, 8, 9, 10, 11] (by decide) (by decide)]; rfl
theorem unscoped_eq (c : Dev nD) : (unscopedSems0 c : sProp 𝕄) = semVal (kcell (c, 0)) 0 := by
  unfold unscopedSems0; rw [bigSep_eq_bigSepL_of_eq [SemLoc.reg barS] (by decide) (by decide)]; rfl

/-- The cells' counters and the weight copies', as the launch hands them over. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 9 => semVal (kcell (c, k)) 0) ∗ wsems c) : sProp 𝕄) := by
  rw [own_eq, unscoped_eq, nine]
  iintro ⟨⟨H1, H2, H3, H4, H5, H6, H7, H8, HW⟩, H0⟩
  iframe H0 H1 H2 H3 H4 H5 H6 H7 H8 HW
theorem sems_join (c : Dev nD) :
    (iprop((bigSep Finset.univ fun k : Fin 9 => semVal (kcell (c, k)) 0) ∗ wsems c) : sProp 𝕄)
      ⊢ iprop(unscopedSems0 c ∗ Pipeline.ownSems0 (Ix := Unit) (Name := ℕ) (U := UU) (Lvl := ℕ) (Val := Elt F) (τ := τ) osem c) := by
  rw [own_eq, unscoped_eq, nine]
  iintro ⟨⟨H0, H1, H2, H3, H4, H5, H6, H7, H8⟩, HW⟩
  iframe H0 H1 H2 H3 H4 H5 H6 H7 H8 HW

/-! ## The invariants, and the deal -/

/-- One device's part with its cells' invariants allocated. -/
def core (c : Dev nD) : sProp 𝕄 :=
  iprop((bigSep Finset.univ fun k : Fin 9 => iprop(∃ κ : ℕ, cellInv ER (rd m) κ (kcell (c, k))))
    ∗ (bigSep Finset.univ fun k : Fin 9 => reached ER (kcell (c, k)) 0)
    ∗ (bigSep Finset.univ fun k : Fin 9 => dutyTok ER (kcell (c, k)) 0 ())
    ∗ (bigSep Finset.univ fun k : Fin 9 => atPos ER (kcell (c, k)) 0 ∅ 0) ∗ wsems c)

theorem alloc_cells (c : Dev nD) :
    iprop((bigSep Finset.univ fun k : Fin 9 => semVal (kcell (c, k)) 0) ∗ bigSep Finset.univ fun k : Fin 9 => roundState ER (rd m) (kcell (c, k)) 0)
      ⊢ (|={Set.univ}=> bigSep Finset.univ fun k : Fin 9 => iprop(∃ κ : ℕ, cellInv ER (rd m) κ (kcell (c, k))) : sProp 𝕄) := by
  rw [← bigSep_sep']
  exact (bigSep_mono fun k _ => (Rounds.body_intro ER (rd m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> core m c := by
  unfold G core
  iintro ⟨Hos, Hus, Hst, Hat, Hr, Htok⟩
  ihave Hv := (sems_split (F := F) c) $$ [Hos Hus]
  · isplitl [Hos] <;> iassumption
  icases Hv with ⟨Hv, HW⟩
  imod (alloc_cells m c) $$ [Hv Hst] with Hinv
  · isplitl [Hv] <;> iassumption
  imodintro
  iframe Hinv Hr Htok Hat HW

/-- The duty of cell `(c, k)` is paid by `payer c k`, and the other way round. -/
def deal : Dev nD × Fin 9 ≃ Dev nD × Fin 9 where
  toFun ck := (payer ck.1 ck.2, ck.2)
  invFun ck := (payer ck.1 ck.2, ck.2)
  left_inv ck := Prod.ext (payer_payer ck.1 ck.2) rfl
  right_inv ck := Prod.ext (payer_payer ck.1 ck.2) rfl

theorem toks_dealt : (bigSep Finset.univ fun c : Dev nD => bigSep Finset.univ fun k : Fin 9 => (dutyTok ER (kcell (c, k)) 0 () : sProp 𝕄))
    = bigSep Finset.univ fun c : Dev nD => bigSep Finset.univ fun k : Fin 9 => dutyTok ER (kcell (payer c k, k)) 0 () := by
  rw [← bigSep_univ_prod (fun ck : Dev nD × Fin 9 => (dutyTok ER (kcell ck) 0 () : sProp 𝕄)), bigSep_univ_equiv deal, bigSep_univ_prod]
  exact bigSep_congr fun c _ => bigSep_congr fun k _ => rfl

theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : bigSep Finset.univ (core m) ⊢ bigSep Finset.univ (G' m) := by
  unfold core
  rw [bigSep_sep', bigSep_sep', bigSep_sep', toks_dealt, ← bigSep_univ_prod (fun ck : Dev nD × Fin 9 => iprop(∃ κ : ℕ, cellInv ER (rd m) κ (kcell ck))),
    ← bigSep_univ_prod (fun ck : Dev nD × Fin 9 => (reached ER (kcell ck) 0 : sProp 𝕄))]
  iintro ⟨HI, #HR, Htok, Hrest⟩
  ihave HK := (BI.bigSep_exists_pi Finset.univ (fun (ck : Dev nD × Fin 9) (κ : ℕ) => (cellInv ER (rd m) κ (kcell ck) : sProp 𝕄))) $$ HI
  icases HK with ⟨%K, #HI⟩
  iapply (each_with (R := records m K) (Φ := fun c => iprop((bigSep Finset.univ fun k : Fin 9 => dutyTok ER (kcell (payer c k, k)) 0 ())
      ∗ (bigSep Finset.univ fun k : Fin 9 => atPos ER (kcell (c, k)) 0 ∅ 0) ∗ wsems c)) fun c _ => show _ ⊢ G' m c from by
    unfold G'
    iintro ⟨#H, HT, HP, HW⟩
    iexists K
    iframe H HP HT HW)
  isplitr
  · unfold records; isplitl
    · iexact HI
    · iexact HR
  · rw [bigSep_sep' Finset.univ (fun c : Dev nD => bigSep Finset.univ fun k : Fin 9 => (dutyTok ER (kcell (payer c k, k)) 0 () : sProp 𝕄))]
    isplitl [Htok] <;> iassumption

theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit -/

/-- The cells that the peer pays. -/
def peers : Finset (Fin 9) := {0, 5, 6, 7, 8}

theorem owed_at (d c : Dev nD) (j k : Fin 9) : owed d j (kcell (c, k)) () = if d = peer c then (if j = k then amt k else 0) else 0 := by
  rw [owed, tallyAt_apply]
  by_cases hd : d = peer c
  · subst hd
    rw [peer_peer, if_pos rfl]
    by_cases hj : j = k
    · subst hj; rw [if_pos ⟨rfl, rfl⟩, if_pos rfl]
    · rw [if_neg hj, if_neg fun h => hj (congrArg Prod.snd (kcell_injective h.1)).symm]
  · rw [if_neg hd, if_neg fun h => hd (by rw [show c = peer d from congrArg Prod.fst (kcell_injective h.1), peer_peer])]

theorem owed_peer (d c : Dev nD) (k : Fin 9) (hk : k ∈ peers) : O₀ d (kcell (c, k)) () = if d = peer c then amt k else 0 := by
  unfold O₀ O1 Ox O2 O3
  simp only [Pi.add_apply, Finsupp.add_apply, owed_at]
  by_cases hd : d = peer c
  · simp only [if_pos hd]
    fin_cases k <;> first | exact absurd hk (by decide) | simp
  · simp only [if_neg hd]

theorem launch_peer (c : Dev nD) (k : Fin 9) (hk : k ∈ peers) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_peer d c k hk,
    Finset.sum_ite_eq' Finset.univ (peer c) fun _ => amt k, if_pos (Finset.mem_univ _)]

theorem creds (c : Dev nD) : (Pipeline.launchCred O₀ c : sProp 𝕄)
    ⊢ iprop(cred (tallyAt (kcell (c, 0)) () (amt 0)) ∗ cred (tallyAt (kcell (c, 5)) () (amt 5)) ∗ cred (tallyAt (kcell (c, 6)) () (amt 6))
      ∗ cred (tallyAt (kcell (c, 7)) () (amt 7)) ∗ cred (tallyAt (kcell (c, 8)) () (amt 8))) := by
  unfold Pipeline.launchCred
  refine (bigSep_subset (t := peers.map ⟨csem, csem_injective⟩) (Finset.subset_univ _)).trans ?_
  rw [bigSep_map]
  refine (bigSep_mono (Ψ := fun k => cred (tallyAt (kcell (c, k)) () (amt k))) fun k hk => Entails.of_eq (congrArg cred (launch_peer c k hk))).trans ?_
  rw [bigSep_eq_bigSepL_of_eq [0, 5, 6, 7, 8] (by decide) (by decide)]
  exact BI.Entails.refl _

end Cert.Moe

end
-- ==== Proof.Run.lean ====
/-
  THE RUN of the kernel on the whole mesh, for any float values: it ends, with the result on every device at `outAt`, every
  argument unchanged and every semaphore counter at zero.
-/
module

public import Idealize.ShloMosaic.Lib.Pipeline.CollectiveSegs
public import proofs.«01_k».proof.Proof.Scratch
public import proofs.«01_k».proof.Proof.Fund
public import proofs.«01_k».proof.Proof.Gen.KernelIdeal.Points

@[expose] public section

noncomputable section

namespace Cert.Moe

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The kernel at its one point -/

/-- The weights on device `c`, in HBM. -/
def weights (c : Dev nD) : sProp 𝕄 := iprop(W1 m c fullShare ∗ W2 m c fullShare)

/-- What device `c`'s body starts from, besides its buffers. -/
def start (c : Dev nD) : sProp 𝕄 :=
  iprop(G' m c ∗ (cr (c, 0) ∗ cr (c, 5) ∗ cr (c, 6) ∗ cr (c, 7) ∗ cr (c, 8)) ∗ levAts L lv ∗ weights m c)

def Φ₀ (c : Dev nD) : sProp 𝕄 := iprop(start m c ∗ Pipeline.scopedRest cfg0.spec c)
def Φ₁ (c : Dev nD) : sProp 𝕄 :=
  iprop(((bigSep Finset.univ fun k : Fin 9 => semVal (kcell (c, k)) 0) ∗ wsems c) ∗ weights m c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => rAt m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

def before (c : Dev nD) : sProp 𝕄 :=
  iprop(Φ₀ m c ∗ (dats m ρ 0 c).owesAt () (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def after (c : Dev nD) : sProp 𝕄 :=
  iprop(Φ₁ m c ∗ (dats m ρ 0 c).owesAt () (t0_0 : Fin cfg0.N).succ
    ∗ stg c cc0_stg0_0 (xAt m c) ∗ stg c cc0_stg1_0 (rAt m c) ∗ stg c cc0_stg2_0 (outAt m c))

/-- The inputs as staged: the only block of an input window is its whole array. -/
theorem staged_x (c : Dev nD) (d : cc0_stg0_0.ty.Contents (Elt F)) : (dats m ρ 0 c).before (0 : Fin 3) t0_0 d = xAt m c := by
  unfold Dat.before; rw [if_pos (fetch0_0 t0_0)]
  funext j
  have hm : win0_0.moved (grid0.coords t0_0) j = true := (win0_0.moved_iff _ j).mpr fun a => (j a).isLt
  unfold Dat.fetched Pipeline.Window.fill
  refine (dif_pos hm).trans ?_
  unfold Dat.blockOf
  rw [View.read_apply]
  show m ((c : Thread nD τ).loc main_arg0) ((win0_0.rect t0_0).emb _) = m ((c : Thread nD τ).loc main_arg0) j
  congr 1
  funext a; apply Fin.ext
  rw [Rect.emb_apply]
  fin_cases a <;> exact (Nat.zero_add _).trans (Nat.one_mul _)
theorem staged_r (c : Dev nD) (d : cc0_stg1_0.ty.Contents (Elt F)) : (dats m ρ 0 c).before (1 : Fin 3) t0_0 d = rAt m c := by
  unfold Dat.before; rw [if_pos (fetch0_1 t0_0)]
  funext j
  have hm : win0_1.moved (grid0.coords t0_0) j = true := (win0_1.moved_iff _ j).mpr fun a => (j a).isLt
  unfold Dat.fetched Pipeline.Window.fill
  refine (dif_pos hm).trans ?_
  unfold Dat.blockOf
  rw [View.read_apply]
  show m ((c : Thread nD τ).loc main_arg1) ((win0_1.rect t0_0).emb _) = m ((c : Thread nD τ).loc main_arg1) j
  congr 1
  funext a; apply Fin.ext
  rw [Rect.emb_apply]
  fin_cases a <;> exact (Nat.zero_add _).trans (Nat.one_mul _)

theorem payers (c : Dev nD) : (bigSep Finset.univ fun k : Fin 9 => (dutyTok ER (kcell (payer c k, k)) 0 () : sProp 𝕄))
    = iprop(tk (peer c, 0) ∗ tk (c, 1) ∗ tk (c, 2) ∗ tk (c, 3) ∗ tk (c, 4) ∗ tk (peer c, 5) ∗ tk (peer c, 6) ∗ tk (peer c, 7) ∗ tk (peer c, 8)) := by
  rw [nine]; rfl

/-- The body between the two. -/
theorem sound_body (c : Dev nD) : before m ρ c ⊢ WP c (kernel (F := F)) fun _ => after m ρ c := by
  unfold before Φ₀ start G' weights wsems Dat.owesAt Pipeline.owesWithin
  rw [show (dats m ρ 0 c).owed (t0_0 : Fin cfg0.N).castSucc = O₀ c from rfl]
  iintro ⟨⟨⟨⟨%K, #HR, HP, HT, ⟨S0, S1, S2, S3⟩⟩, HC, #Hlev, ⟨HW1, HW2⟩⟩, Hscr⟩, ⟨%W, %hW, HO⟩, ⟨%d0, %g0, %hg0, Hx⟩, ⟨%d1, %g1, %hg1, Hr⟩, ⟨%d2, %g2, %hg2, Ho⟩⟩
  rw [staged_x] at hg0; subst hg0
  rw [staged_r] at hg1; subst hg1
  ihave HT := (Entails.of_eq (payers (F := F) c)) $$ HT
  ihave HP := (Entails.of_eq (nine (F := F) fun k : Fin 9 => atPos ER (kcell (c, k)) 0 ∅ 0)) $$ HP
  ihave Hscr := (open_scratch (F := F) c) $$ Hscr
  icases Hscr with ⟨Hpeer, Hown, Hsl, Htr, Hof, Hsb⟩
  ihave HW1 := (halve (F := F)).1 $$ HW1
  icases HW1 with ⟨W1l, W1r⟩
  ihave HW2 := (halve (F := F)).1 $$ HW2
  icases HW2 with ⟨W2l, W2r⟩
  ihave Hr := (open_r m c) $$ Hr
  icases Hr with ⟨Hr1, Hr2⟩
  iapply (run_body m K c fun _ => after m ρ c)
  isplitl [HP HT S0 S1 S2 S3 HC HO Hx Ho Hpeer Hown Hsl Htr Hof Hsb W1l W1r W2l W2r Hr1 Hr2]
  · unfold bodyStart owesE
    isplitr; · iexact HR
    isplitr; · iexact Hlev
    isplitl [HO]; · iexists W; iexact HO
    isplitl [Hpeer]; · iexact Hpeer
    isplitl [Hown]; · iexact Hown
    isplitl [HT]; · iexact HT
    isplitl [HP]; · iexact HP
    isplitl [HC]; · iexact HC
    isplitl [S0 S1 S2 S3]; · iframe S0 S1 S2 S3
    isplitl [Hx Hr1 Hr2 Ho]
    · isplitl [Hx]; · iexact Hx
      isplitl [Hr1]; · iexact Hr1
      isplitl [Hr2]; · iexact Hr2
      iexists g2; iexact Ho
    isplitl [W1l W1r W2l W2r]; · iframe W1l W1r W2l W2r
    isplitl [Hsl]; · iexact Hsl
    isplitl [Htr]; · iexact Htr
    isplitl [Hof]; · iexact Hof
    iexact Hsb
  unfold bodyEnd after Φ₁ weights wsems owesE Dat.owesAt Pipeline.owesWithin
  rw [show (dats m ρ 0 c).owed (t0_0 : Fin cfg0.N).succ = 0 from rfl]
  iintro ⟨⟨%W', HO⟩, HZ, HS, ⟨Hx, Hr1, Hr2, Ho⟩, ⟨W1l, W1r, W2l, W2r⟩, Hscr⟩
  ihave Hscr := (close_scratch m c) $$ Hscr
  isplitl [HZ HS W1l W1r W2l W2r Hscr]
  · isplitl [HZ HS]
    · isplitl [HZ]; · iapply (Entails.of_eq (nine (F := F) fun k : Fin 9 => semVal (kcell (c, k)) 0).symm); iexact HZ
      iexact HS
    isplitl [W1l W1r W2l W2r]
    · isplitl [W1l W1r]
      · iapply (halve (F := F)).2; isplitl [W1l] <;> iassumption
      · iapply (halve (F := F)).2; isplitl [W2l] <;> iassumption
    iexact Hscr
  isplitl [HO]
  · iexists W'
    isplitr; · ipureintro; exact fun _ _ => Or.inl trivial
    iexact HO
  isplitl [Hx]
  · iexists _; isplitr; · (ipureintro; rfl)
    iexact Hx
  isplitl [Hr1 Hr2]
  · iexists _; isplitr; · (ipureintro; rfl)
    iapply (close_r m c); isplitl [Hr1] <;> iassumption
  iexists _; isplitr; · (ipureintro; rfl)
  iexact Ho

set_option maxRecDepth 4000 in
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole]
  exact sound_body m ρ c

/-! ## The launch -/

theorem share_eq (c : Dev nD) (w : Fin cfg0.W) : (dats m ρ 0 c).share w = fullShare := by unfold Dat.share; split <;> rfl

theorem rest_eq (c : Dev nD) :
    (Pipeline.unscopedRestP Pipeline.Prefetch.none cfg0.spec c (fun b => m ((c : Thread nD τ).loc b)) : sProp 𝕄) = weights m c := by
  rw [Pipeline.unscopedRestP_none]; exact unscopedRest0_eq c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  iintro ⟨HW, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact HW
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((unscopedSems0 c ∗ weights m c) ∗ Pipeline.ownSems0 osem c ∗ Pipeline.scopedRest cfg0.spec c) := by
  rw [show (dats m ρ 0 c).Φ (Fin.last cfg0.N) = Φ₁ m c from rfl]
  unfold Φ₁
  iintro ⟨HZ, HW, Hr⟩
  ihave HZ := (sems_join (F := F) c) $$ HZ
  icases HZ with ⟨H0, H1⟩
  isplitl [H0 HW]; · isplitl [H0] <;> iassumption
  isplitl [H1] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ _ fun g u h => by
      have hl : ∀ w : Fin 3, ∀ s : Fin (cfg0.win w).nbuf, lvs (.dma ((cfg0.win w).sem s)) = 0 := by decide
      rcases t with ⟨_ | _, ht⟩
      · obtain ⟨k, hk, hlt⟩ := O₀_pos (c := c) (n := 0) (by decide) g u h
        exact ⟨k, hk, lt_of_eq_of_lt (hl w s) hlt⟩
      · exact absurd h (Nat.lt_irrefl 0)

/-! ## The run -/

/-- The arguments that no window stages are what they were. -/
def kept (c : Dev nD) (s : MemSt nD τ sig (Elt F)) : Prop :=
  s.mem ((c : Thread nD τ).loc main_arg2) = m ((c : Thread nD τ).loc main_arg2) ∧ s.mem ((c : Thread nD τ).loc main_arg3) = m ((c : Thread nD τ).loc main_arg3)

theorem weights_read (c : Dev nD) (s' : Phys nD τ sig (Elt F)) : iprop(weights m c ∗ SI s') ⊢ (⌜kept m c s'.mem⌝ : sProp 𝕄) := by
  have agree (b : Ref sig .tc) : iprop(SI s' ∗ (((c : Thread nD τ).loc b) ↦{fullShare} m ((c : Thread nD τ).loc b)))
      ⊢ (⌜s'.mem.mem ((c : Thread nD τ).loc b) = m ((c : Thread nD τ).loc b)⌝ : sProp 𝕄) :=
    (SI_pointsTo_agree (st := s') (I := Finset.univ) (q := fullShare) (f := m ((c : Thread nD τ).loc b))).trans
      (BI.pure_mono fun h => funext fun i => h i (Finset.mem_univ i))
  have h1 : iprop(weights m c ∗ SI s') ⊢ iprop(SI s' ∗ (((c : Thread nD τ).loc main_arg2) ↦{fullShare} m ((c : Thread nD τ).loc main_arg2))) := by
    unfold weights
    iintro ⟨⟨H1, -⟩, HS⟩; isplitl [HS] <;> iassumption
  have h2 : iprop(weights m c ∗ SI s') ⊢ iprop(SI s' ∗ (((c : Thread nD τ).loc main_arg3) ↦{fullShare} m ((c : Thread nD τ).loc main_arg3))) := by
    unfold weights
    iintro ⟨⟨-, H1⟩, HS⟩; isplitl [HS] <;> iassumption
  exact fun x hx => ⟨(h1.trans (agree main_arg2)) x hx, (h2.trans (agree main_arg3)) x hx⟩

def finalA (c : Dev nD) (w : Fin cfg0.W) : Buf (Elt F) ((cfg0.win w).arr.view.loc (c : Thread nD τ)) := (dats m ρ 0 c).arrAt w cfg0.N

def ends : PUnit × MemSt nD τ sig (Elt F) → Prop := fun r =>
  (∀ c : Dev nD, (∀ w : Fin cfg0.W, r.2.mem ((cfg0.win w).arr.view.loc (c : Thread nD τ)) = finalA m ρ c w) ∧ kept m c r.2) ∧ r.2.sem = fun _ => 0

set_option maxRecDepth 8000 in
theorem run_main : θ_run defs (onTc (τ := τ) (main (F := F))) (s₀ m ρ) (ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀) (hu₀ := fund m) (hglob := glob m)
    (hA := fun _ _ => rfl) (hpf := fun _ k => k.elim0)
    (X := start m) (Y := fun c => iprop(unscopedSems0 c ∗ weights m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ kept m c s)
    (hY := fun c s' => by
      iintro ⟨⟨Hu, HW⟩, -, HSI⟩
      ihave %hk := (weights_read m c s') $$ [HW HSI]
      · isplitl [HW] <;> iassumption
      imod (Pipeline.unscopedSems0_read (X := unscopedSems0 c) (c := c) fupd_intro s') $$ [Hu HSI] with ⟨%hz, HSI⟩
      · isplitl [Hu] <;> iassumption
      imodintro
      isplitr; · ipureintro; exact ⟨hz, hk⟩
      iexact HSI)
    (hQ := fun _ h hs => ⟨fun c => ⟨(h c).1, (h c).2.2.2⟩, sem_eq_zero hs fun c => (h c).2.2.1⟩)

/-- The token rows and the router columns are what they were, -/
theorem final_x (c : Dev nD) : finalA m ρ c (0 : Fin 3) = m ((c : Thread nD τ).loc main_arg0) := (dats (F := F) m ρ 0 c).arrAt_in (0 : Fin 3) rfl _
theorem final_r (c : Dev nD) : finalA m ρ c (1 : Fin 3) = m ((c : Thread nD τ).loc main_arg1) := (dats (F := F) m ρ 0 c).arrAt_in (1 : Fin 3) rfl _

end Cert.Moe

end
-- ==== Proof.Frames.lean ====
/- The frames of the program as printed and of its idealization: the run, its values dropped. -/
module

public import proofs.«01_k».proof.Defs
public import proofs.«01_k».proof.Proof.Gen.Kernel
public import proofs.«01_k».proof.Proof.Run

@[expose] public section

noncomputable section

namespace Cert.Moe

open Idealize.ShloMosaic Idealize.ShloMosaic.TcCoe Idealize.SL.Sem Cert.KernelIdeal

variable {F : FTy → Type} [FloatOps F] [Named F]

/-- Every argument ends as it began, and every counter at zero. -/
def framed (m : (ℓ : Loc nD τ sig) → Buf (Elt F) ℓ) : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

theorem run_framed (m : (ℓ : Loc nD τ sig) → Buf (Elt F) ℓ) (ρ : Dev nD → PrngReg) :
    θ_run (defs (F := F)) (onTc (τ := τ) (main (F := F))) ⟨m, fun _ => 0, ρ⟩ (framed m) :=
  (θ_run defs _ _).mono (fun r h => ⟨fun c => ⟨((h.1 c).1 (0 : Fin 3)).trans (final_x m ρ c), ((h.1 c).1 (1 : Fin 3)).trans (final_r m ρ c), (h.1 c).2.1, (h.1 c).2.2⟩, h.2⟩)
    (run_main m ρ)

theorem frame_ideal : Cert.quiescent_KernelIdeal := fun m ρ _ => run_framed (F := Ideal) m ρ

theorem frame_ideal_pre [Cert.Pre_finite_gate_inputs_KernelIdeal.Facts] : Cert.quiescent_KernelIdeal_pre_finite_gate_inputs_KernelIdeal :=
  fun m ρ _ => run_framed (F := Ideal) m ρ

/-! The program as printed has the text of its idealization with the mask's own bits for its name. -/

/-- A name read as the bits it was printed for. -/
abbrev bitsNamed : Named Bits := ⟨fun _ _ φ b => Scalar.ofBits φ b⟩
attribute [local instance] bitsNamed

theorem body_same : Cert.Kernel.cc0__body (F := Bits) = Cert.KernelIdeal.cc0__body (F := Bits) := rfl

theorem table_same : Cert.Kernel.defs₀ (F := Bits) = Cert.KernelIdeal.defs₀ (F := Bits) := by
  unfold Cert.Kernel.defs₀ Cert.KernelIdeal.defs₀
  rw [body_same]
  refine congrArg Defs.onTc (funext fun ℓ => ?_)
  match ℓ with
  | ⟨0, _⟩ => rfl

theorem defs_same : Cert.Kernel.defs (F := Bits) = Cert.KernelIdeal.defs (F := Bits) :=
  congrArg (Pipeline.defs Cert.Kernel.pcfgs) table_same

theorem frame_bits : Cert.quiescent_Kernel := fun m ρ _ => by
  rw [defs_same]
  exact run_framed (F := Bits) m ρ

theorem preserved : Cert.preserves_Kernel_KernelIdeal := by
  exact IdealRules.named_const.statement _ _ _ _ _ rfl

end Cert.Moe

end
-- ==== Proof.FrameRef.lean ====
/- The frame of the reference: its straight line of host operations runs and writes no argument. -/
module

public import proofs.«01_k».proof.Defs
public import proofs.«01_k».proof.Proof.Gen.ReferenceIdeal.Run
public import Idealize.ShloMosaic.Lib.Quiescent

@[expose] public section

noncomputable section

namespace Cert.Moe

open Idealize.ShloMosaic Idealize.SL.Sem Cert.ReferenceIdeal

theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2, sem_eq_zero_of_no_sems (by decide) r.2⟩) (Cert.ReferenceIdeal.Value.run (F := Ideal) m ρ)

theorem frame_ref : Cert.quiescent_ReferenceIdeal := fun m ρ _ => run_ref m ρ

theorem frame_ref_pre [Cert.Pre_finite_gate_inputs_ReferenceIdeal.Facts] : Cert.quiescent_ReferenceIdeal_pre_finite_gate_inputs_ReferenceIdeal :=
  fun m ρ _ => run_ref m ρ

end Cert.Moe

end
-- ==== Proof.TopTwo.lean ====
/- The two greatest entries of a row of eight, equal ones in the order of their positions: they exist, they are the first
   two of a stable descending sort, and the folds by which a kernel takes them compute them. -/
module

public import Idealize.ShloMosaic.Lib.SortPrefix
public import Idealize.ShloMosaic.PureOps.Reduce
public import Idealize.ShloMosaic.PureOps.Ideal.Laws
public import Mathlib.Data.Finset.Fold
public import Mathlib.Data.EReal.Basic

@[expose] public section

noncomputable section

namespace Cert.Moe

open Idealize.ShloMosaic

/-- `a` is the greatest entry's position and `b` the next one's, the earlier position first among equal entries. -/
structure TopTwo (r : Fin 8 → EReal) (a b : Fin 8) : Prop where
  top : ∀ e, r e < r a ∨ (r e = r a ∧ a ≤ e)
  ne : b ≠ a
  sec : ∀ e, e ≠ a → r e < r b ∨ (r e = r b ∧ b ≤ e)

/-- Descending by the entry, ascending by the position among equal ones. -/
def lexB (r : Fin 8 → EReal) (k k' : Fin 8) : Bool := decide (r k' < r k) || (decide (r k = r k') && decide (k < k'))

theorem lexB_strict (r : Fin 8 → EReal) : StrictTotalBefore (lexB r) :=
  StrictTotalBefore.of_key_then_position (fun a b : EReal => decide (b < a)) r (fun a => by simp)
    (fun a b c h h' => by simp only [decide_eq_true_eq] at *; exact h'.trans h)
    (fun a b => by simp only [decide_eq_true_eq]; rcases lt_trichotomy a b with h | h | h
                   · exact Or.inr (Or.inr h)
                   · exact Or.inr (Or.inl h)
                   · exact Or.inl h)

/-- A stable sort of ascending positions breaks ties by the position. -/
theorem stableSort_lex (r : Fin 8 → EReal) : ∀ l : List (Fin 8), l.Pairwise (· < ·) →
    stableSort (fun k k' => decide (r k' < r k)) l = stableSort (lexB r) l
  | [], _ => rfl
  | a :: l, h => by
    rw [List.pairwise_cons] at h
    unfold stableSort
    rw [stableSort_lex r l h.2]
    refine insertBefore_congr _ _ a _ fun b hb => ?_
    have hab : a < b := h.1 b ((perm_stableSort _ l).mem_iff.mp hb)
    simp [lexB, not_lt.mpr hab.le]

theorem sortedFrom_lex (r : Fin 8 → EReal) : sortedFrom (fun k k' : Fin 8 => decide (r k' < r k)) = sortedFrom (lexB r) := by
  funext k
  unfold sortedFrom
  have h : sortPositions 8 (fun k k' : Fin 8 => decide (r k' < r k)) = sortPositions 8 (lexB r) :=
    stableSort_lex r (List.finRange 8) (List.pairwise_lt_finRange 8)
  rw [List.get_of_eq h]
  rfl

theorem lexB_false {r : Fin 8 → EReal} {p s : Fin 8} (h : r p < r s ∨ (r p = r s ∧ s ≤ p)) : lexB r p s = false := by
  unfold lexB
  rcases h with h | ⟨h, h'⟩
  · simp [not_lt.mpr h.le, h.ne]
  · simp [h, not_lt.mpr h']

/-- The stable descending sort puts the two greatest first. -/
theorem TopTwo.sorted {r : Fin 8 → EReal} {a b : Fin 8} (h : TopTwo r a b) (i : Fin 2) :
    sortedFrom (fun k k' : Fin 8 => decide (r k' < r k)) (i.castLE (by decide)) = (![a, b] : Fin 2 → Fin 8) i := by
  rw [sortedFrom_lex]
  refine (lexB_strict r).sortedFrom_eq_of_prefix (by decide) (![a, b] : Fin 2 → Fin 8) ?_ ?_ ?_ i
  · intro x y hxy
    fin_cases x <;> fin_cases y
    · rfl
    · exact absurd hxy.symm h.ne
    · exact absurd hxy h.ne
    · rfl
  · intro x y hxy
    fin_cases x <;> fin_cases y
    · exact absurd hxy (lt_irrefl _)
    · exact lexB_false (h.top b)
    · exact absurd hxy (by decide)
    · exact absurd hxy (lt_irrefl _)
  · intro x p hp
    fin_cases x
    · exact lexB_false (h.top p)
    · exact lexB_false (h.sec p fun e => hp 0 e.symm)

/-- Of finitely many positions one has the greatest entry, the earliest among equal ones. -/
theorem exists_first_max (r : Fin 8 → EReal) (s : Finset (Fin 8)) (hs : s.Nonempty) :
    ∃ a ∈ s, ∀ e ∈ s, r e < r a ∨ (r e = r a ∧ a ≤ e) := by
  obtain ⟨m, hm, hmax⟩ := s.exists_max_image r hs
  have hne : (s.filter fun e => r e = r m).Nonempty := ⟨m, Finset.mem_filter.mpr ⟨hm, rfl⟩⟩
  refine ⟨(s.filter fun e => r e = r m).min' hne, ?_, fun e he => ?_⟩
  · exact (Finset.mem_filter.mp (Finset.min'_mem _ hne)).1
  · have hr := (Finset.mem_filter.mp (Finset.min'_mem _ hne)).2
    rcases (hmax e he).lt_or_eq with h | h
    · left; rw [hr]; exact h
    · right; exact ⟨h.trans hr.symm, Finset.min'_le _ _ (Finset.mem_filter.mpr ⟨he, h⟩)⟩

theorem exists_topTwo (r : Fin 8 → EReal) : ∃ a b, TopTwo r a b := by
  obtain ⟨a, -, ha⟩ := exists_first_max r Finset.univ ⟨0, Finset.mem_univ _⟩
  obtain ⟨b, hb, hb'⟩ := exists_first_max r (Finset.univ.erase a) (by
    refine ⟨if a = 0 then 1 else 0, Finset.mem_erase.mpr ⟨?_, Finset.mem_univ _⟩⟩
    split
    · next h => rw [h]; decide
    · next h => exact fun e => h e.symm)
  exact ⟨a, b, fun e => ha e (Finset.mem_univ e), (Finset.mem_erase.mp hb).1, fun e he => hb' e (Finset.mem_erase.mpr ⟨he, Finset.mem_univ e⟩)⟩

/-! ## The folds -/

/-- The running maximum from below of a row with a greatest entry is that entry. -/
theorem fold_max_eq {r : Fin 8 → EReal} {a : Fin 8} (h : ∀ e, r e ≤ r a) :
    (Finset.univ : Finset (Fin 8)).fold max ⊥ r = r a :=
  le_antisymm ((Finset.fold_max_le _).mpr ⟨bot_le, fun e _ => h e⟩) ((Finset.le_fold_max _).mpr (Or.inr ⟨a, Finset.mem_univ a, le_refl _⟩))

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The running signed minimum of words with a least one is that word. -/
theorem fold_minsi_eq {f : Fin 8 → BitVec 32} {a : Fin 8} (h : ∀ e, (f a).toInt ≤ (f e).toInt) (h' : (f a).toInt ≤ 2147483647) :
    (Finset.univ : Finset (Fin 8)).fold IntOp.minsi 2147483647#32 f = f a := by
  apply BitVec.eq_of_toInt_eq
  rw [← Finset.fold_hom (op := IntOp.minsi) (op' := min) (m := BitVec.toInt) toInt_minsi (f := f)]
  exact le_antisymm ((Finset.fold_min_le _).mpr (Or.inr ⟨a, Finset.mem_univ a, le_refl _⟩)) ((Finset.le_fold_min _).mpr ⟨h', fun e _ => h e⟩)

theorem toInt_ofNat_fin (e : Fin 8) : (BitVec.ofNat 32 e.val).toInt = e.val := by revert e; decide

/-- The least position among those of a row's greatest entry, the others counted as 8. -/
theorem fold_first {P : Fin 8 → Prop} [DecidablePred P] {a : Fin 8} (ha : P a) (h : ∀ e, P e → a ≤ e) :
    (Finset.univ : Finset (Fin 8)).fold IntOp.minsi 2147483647#32 (fun e => if P e then BitVec.ofNat 32 e.val else 8#32)
      = BitVec.ofNat 32 a.val := by
  refine (fold_minsi_eq (a := a) (fun e => ?_) ?_).trans (if_pos ha)
  · show (if P a then BitVec.ofNat 32 a.val else 8#32).toInt ≤ _
    rw [if_pos ha, toInt_ofNat_fin]
    split
    · next he => rw [toInt_ofNat_fin]; exact_mod_cast h e he
    · show (a.val : ℤ) ≤ 8; have := a.isLt; omega
  · show (if P a then BitVec.ofNat 32 a.val else 8#32).toInt ≤ _
    rw [if_pos ha, toInt_ofNat_fin]; have := a.isLt; omega

end Cert.Moe

end
-- ==== Proof.Spec.lean ====
/- What both programs compute, said once over plain index functions: the gates, the two chosen experts and their weights, the
   running counts, the capacity, the experts' two matrix products and the weighted sum. -/
module

public import proofs.«01_k».proof.Proof.TopTwo

@[expose] public section

noncomputable section

namespace Cert.Moe

open Idealize.ShloMosaic

/-- The tokens, the router and the experts' weights as functions of their coordinates. -/
structure Inputs where
  X : Fin 1024 → Fin 1024 → EReal
  R : Fin 1024 → Fin 8 → EReal
  W1 : Fin 8 → Fin 1024 → Fin 2048 → EReal
  W2 : Fin 8 → Fin 2048 → Fin 1024 → EReal

/-- A token's gate for an expert. -/
def Inputs.gate (I : Inputs) (t : Fin 1024) (e : Fin 8) : EReal := ∑ k, I.X t k * I.R k e

/-- The second gate's exponential, the first one's subtracted: the smaller term of the softmax. -/
def second (r : Fin 8 → EReal) (a b : Fin 8) : EReal := Ideal.exp (r b - r a)

/-- The weight with which expert `e` enters a token whose chosen experts are `a` and `b`. -/
def weight (r : Fin 8 → EReal) (a b e : Fin 8) : EReal :=
  (if e = a then Ideal.div 1 (1 + second r a b) else 0) + (if e = b then Ideal.div (second r a b) (1 + second r a b) else 0)

/-- The choice of two experts for each token. -/
structure Choice (I : Inputs) where
  fst : Fin 1024 → Fin 8
  snd : Fin 1024 → Fin 8
  top : ∀ t, TopTwo (I.gate t) (fst t) (snd t)
  fin : ∀ t e, ∃ x : ℝ, I.gate t e = x

variable {I : Inputs} (C : Choice I)

/-- Expert `e` is one of token `t`'s two. -/
def Choice.chosen (t : Fin 1024) (e : Fin 8) : Prop := e = C.fst t ∨ e = C.snd t

instance (t : Fin 1024) (e : Fin 8) : Decidable (C.chosen t e) := by unfold Choice.chosen; infer_instance

/-- How many tokens up to `t` chose expert `e`. -/
def Choice.count (t : Fin 1024) (e : Fin 8) : ℕ := ∑ s : Fin 1024, if s ≤ t ∧ C.chosen s e then 1 else 0

/-- The token's place with the expert is within its capacity. -/
def Choice.kept (t : Fin 1024) (e : Fin 8) : Prop := C.chosen t e ∧ C.count t e ≤ 320

instance (t : Fin 1024) (e : Fin 8) : Decidable (C.kept t e) := by unfold Choice.kept; infer_instance

def Choice.wt (t : Fin 1024) (e : Fin 8) : EReal := weight (I.gate t) (C.fst t) (C.snd t) e

/-- The expert's two matrix products at a token. -/
def Inputs.ffn (I : Inputs) (e : Fin 8) (t d : Fin 1024) : EReal := ∑ f, max (∑ k, I.X t k * I.W1 e k f) 0 * I.W2 e f d

/-- The result. -/
def Choice.out (t d : Fin 1024) : EReal := ∑ e : Fin 8, if C.kept t e then C.wt t e * I.ffn e t d else 0

/-! ## The weights -/

theorem second_real {r : Fin 8 → EReal} (hr : ∀ e, ∃ x : ℝ, r e = x) (a b : Fin 8) :
    ∃ x : ℝ, 0 < x ∧ second r a b = x := by
  obtain ⟨x, hx⟩ := hr a
  obtain ⟨y, hy⟩ := hr b
  refine ⟨Real.exp (y - x), Real.exp_pos _, ?_⟩
  unfold second
  rw [hx, hy, ← EReal.coe_sub]
  rfl

theorem div_pos_real {x y : ℝ} (hx : 0 < x) (hy : 0 < y) : 0 < Ideal.div (x : EReal) (y : EReal) := by
  unfold Ideal.div
  rw [if_neg (by exact_mod_cast hy.ne'), ← EReal.coe_inv, ← EReal.coe_mul]
  exact_mod_cast mul_pos hx (inv_pos.mpr hy)

/-- The chosen experts are those of positive weight. -/
theorem weight_pos {r : Fin 8 → EReal} {a b : Fin 8} (hab : b ≠ a) (hr : ∀ e, ∃ x : ℝ, r e = x) (e : Fin 8) :
    0 < weight r a b e ↔ (e = a ∨ e = b) := by
  obtain ⟨x, hx, hs⟩ := second_real hr a b
  have h1 : (1 : EReal) + (x : EReal) = ((1 + x : ℝ) : EReal) := by rw [EReal.coe_add]; rfl
  unfold weight
  rw [hs, h1]
  by_cases ha : e = a
  · subst ha
    rw [if_pos rfl, if_neg hab.symm, add_zero]
    exact iff_of_true (div_pos_real (x := 1) one_pos (by linarith)) (Or.inl rfl)
  · by_cases hb : e = b
    · subst hb
      rw [if_neg ha, if_pos rfl, zero_add]
      exact iff_of_true (div_pos_real hx (by linarith)) (Or.inr rfl)
    · rw [if_neg ha, if_neg hb, add_zero]
      exact iff_of_false (lt_irrefl _) (by tauto)

theorem Choice.wt_pos (t : Fin 1024) (e : Fin 8) : 0 < C.wt t e ↔ C.chosen t e :=
  weight_pos (C.top t).ne (C.fin t) e

theorem weight_congr (r : Fin 8 → EReal) {a b e : Fin 8} : weight r a b e =
    (if a = e then Ideal.div 1 (1 + second r a b) else 0) + (if b = e then Ideal.div (second r a b) (1 + second r a b) else 0) := by
  unfold weight; simp only [eq_comm]

/-! ## The places -/

theorem Choice.count_le (t : Fin 1024) (e : Fin 8) : C.count t e ≤ 1024 := by
  unfold Choice.count
  refine (Finset.sum_le_sum (g := fun _ => 1) fun s _ => ?_).trans (by simp)
  split <;> omega

theorem Choice.count_lt {s t : Fin 1024} {e : Fin 8} (h : s < t) (ht : C.chosen t e) : C.count s e < C.count t e := by
  unfold Choice.count
  refine Finset.sum_lt_sum (fun u _ => ?_) ⟨t, Finset.mem_univ t, ?_⟩
  · by_cases hu : u ≤ s ∧ C.chosen u e
    · rw [if_pos hu, if_pos ⟨hu.1.trans h.le, hu.2⟩]
    · rw [if_neg hu]; exact Nat.zero_le _
  · rw [if_neg (fun hh => absurd hh.1 (not_le.mpr h)), if_pos ⟨le_refl t, ht⟩]; exact one_pos

/-- Two tokens of one expert stand at different places. -/
theorem Choice.count_inj {s t : Fin 1024} {e : Fin 8} (hs : C.chosen s e) (ht : C.chosen t e)
    (h : C.count s e = C.count t e) : s = t := by
  rcases lt_trichotomy s t with h' | h' | h'
  · exact absurd h (C.count_lt h' ht).ne
  · exact h'
  · exact absurd h (C.count_lt h' hs).ne'

theorem Choice.count_pos {t : Fin 1024} {e : Fin 8} (ht : C.chosen t e) : 1 ≤ C.count t e := by
  unfold Choice.count
  refine le_trans ?_ (Finset.single_le_sum (f := fun s : Fin 1024 => if s ≤ t ∧ C.chosen s e then 1 else 0)
    (fun _ _ => Nat.zero_le _) (Finset.mem_univ t))
  show 1 ≤ if t ≤ t ∧ C.chosen t e then 1 else 0
  rw [if_pos ⟨le_refl t, ht⟩]

end Cert.Moe

end
-- ==== Proof.KRoute.lean ====
/- The kernel's routing at one token: the two greatest gates, their positions and the weights of the four experts of a device. -/
module

public import proofs.«01_k».proof.Proof.Gen.KernelIdeal.Skeleton
public import proofs.«01_k».proof.Proof.Spec
public import Idealize.ShloMosaic.Lib.Pointwise
public import Idealize.ShloMosaic.Lib.ValueIdx

@[expose] public section

noncomputable section

namespace Cert.Moe

open Cert.KernelIdeal Cert.KernelIdeal.Gen
open Idealize.ShloMosaic
open Idealize.ShloMosaic.ValueIdx (select_one select_zero eq_zero_of_ne_one)

variable {g : Vec Ideal S1024x8 .f32} {t : Fin 1024} {a b : Fin 8}

/-- Token `t`'s gates. -/
def row (g : Vec Ideal S1024x8 .f32) (t : Fin 1024) : Fin 8 → EReal := fun e => g (ix2 t e)

theorem TopTwo.le {r : Fin 8 → EReal} {a b : Fin 8} (h : TopTwo r a b) (e : Fin 8) : r e ≤ r a := by
  rcases h.top e with h | ⟨h, -⟩
  · exact h.le
  · exact h.le

theorem ofBits_bot : FloatOps.ofBits (F := Ideal) .f32 0xFF800000#32 = (⊥ : EReal) := by
  show Ideal.ofBits .f32 0xFF800000#32 = ⊥
  simp [Ideal.ofBits, Ideal.ieee]

/-- The choice by a comparison's bit. -/
theorem select_ite {α : Type} (P : Prop) [Decidable P] (x y : α) :
    Scalar.select (BitVec.ofBool (decide P)) x y = if P then x else y := by
  by_cases h : P
  · rw [if_pos h, decide_eq_true h]; rfl
  · rw [if_neg h, decide_eq_false h]; rfl

theorem cmpi_eq_bit (x y : BitVec 32) : IntOp.cmpi .eq x y = BitVec.ofBool (decide (x = y)) := by
  unfold IntOp.cmpi
  by_cases h : x = y
  · subst h; simp
  · rw [decide_eq_false h]; show BitVec.ofBool (x == y) = _; rw [beq_false_of_ne h]

theorem ofNat_eq_iff (e a : Fin 8) : (BitVec.ofNat 32 e.val = BitVec.ofNat 32 a.val) ↔ e = a := by revert e a; decide

/-- A lane's number along the minor axis. -/
theorem lane_word (n : Nat) (t : Fin 1024) (e : Fin n) :
    BitVec.ofNat 32 (List.foldl (fun k a => k * (![1024, n] : Fin 2 → ℕ) a + ((ix2 t e : (⟨2, ![1024, n]⟩ : Shape).Idx) a).val) 0 [1])
      = BitVec.ofNat 32 e.val := by
  show BitVec.ofNat 32 (0 * n + e.val) = _
  rw [Nat.zero_mul, Nat.zero_add]

theorem pay9_at (h : TopTwo (row g t) a b) : k0_pay9 g (ix2 t 0) = g (ix2 t a) := by
  unfold k0_pay9
  simp only [pointwise]
  have h' := fold_max_eq (r := row g t) (a := a) h.le
  rw [← ofBits_bot] at h'
  exact h'

theorem pay10_at (h : TopTwo (row g t) a b) : k0_pay10 g (ix2 t 0) = BitVec.ofNat 32 a.val := by
  unfold k0_pay10
  simp only [pointwise]
  refine Eq.trans ?_ (fold_first (P := fun e => row g t e = row g t a) (a := a) rfl fun e he => ?_)
  · refine congrArg (Finset.univ.fold IntOp.minsi 2147483647#32) (funext fun k => ?_)
    rw [lane_word]
    change (if g (ix2 t k) = k0_pay9 g (ix2 t 0) then _ else _) = if g (ix2 t k) = g (ix2 t a) then _ else _
    rw [pay9_at h]
  · rcases h.top e with h' | h'
    · exact absurd he h'.ne
    · exact h'.2

/-- The row with its greatest entry masked. -/
theorem pay11_at (h : TopTwo (row g t) a b) (e : Fin 8) : k0_pay11 g (ix2 t e) = if e = a then (⊥ : EReal) else g (ix2 t e) := by
  unfold k0_pay11
  simp only [pointwise]
  rw [lane_word]
  change Scalar.select (IntOp.cmpi .eq (BitVec.ofNat 32 e.val) (k0_pay10 g (ix2 t 0))) _ _ = _
  rw [pay10_at h, cmpi_eq_bit, select_ite]
  simp only [ofNat_eq_iff]
  rfl

theorem pay12_at (h : TopTwo (row g t) a b) : k0_pay12 g (ix2 t 0) = g (ix2 t b) := by
  unfold k0_pay12
  simp only [pointwise]
  have hk : (fun k => k0_pay11 g (ix2 t k)) = fun e => if e = a then (⊥ : EReal) else g (ix2 t e) := funext fun e => pay11_at h e
  have h' := fold_max_eq (r := fun k => k0_pay11 g (ix2 t k)) (a := b) (fun e => by
    show k0_pay11 g (ix2 t e) ≤ k0_pay11 g (ix2 t b)
    rw [pay11_at h, pay11_at h, if_neg h.ne]
    split
    · exact bot_le
    · next he => exact (h.sec e he).elim le_of_lt fun h => h.1.le)
  rw [← ofBits_bot] at h'
  exact h'.trans ((pay11_at h b).trans (if_neg h.ne))

/-- The least position of the second greatest gate. -/
theorem pay13_at (h : TopTwo (row g t) a b) (hg : ∀ e, (⊥ : EReal) < g (ix2 t e)) (e : Fin 8) :
    k0_pay13 g (ix2 t e) = if (e ≠ a ∧ g (ix2 t e) = g (ix2 t b)) then BitVec.ofNat 32 e.val else 8#32 := by
  unfold k0_pay13
  simp only [pointwise]
  rw [lane_word]
  change (if k0_pay11 g (ix2 t e) = k0_pay12 g (ix2 t 0) then _ else _) = _
  rw [pay12_at h, pay11_at h]
  by_cases he : e = a
  · rw [if_pos he, if_neg (hg b).ne, if_neg (fun h => h.1 he)]
  · rw [if_neg he]
    exact if_congr (by simp [he]) rfl rfl

theorem own_word (v : Fin 2) (j : Fin 4) : IntOp.addi (BitVec.ofNat 32 j.val) (Scalar.muli (BitVec.ofNat 32 v.val) 4#32)
    = BitVec.ofNat 32 (⟨4 * v.val + j.val, by omega⟩ : Fin 8).val := by revert v j; decide

theorem pay14_at (h : TopTwo (row g t) a b) (hg : ∀ e, (⊥ : EReal) < g (ix2 t e)) (v : Fin 2) (j : Fin 4) :
    k0_pay14 (BitVec.ofNat 32 v.val) (k0_pay9 g) (k0_pay10 g) (k0_pay12 g) (k0_pay13 g) (ix2 t j)
      = weight (row g t) a b ⟨4 * v.val + j.val, by omega⟩ := by
  unfold k0_pay14
  simp only [pointwise]
  rw [lane_word, own_word]
  have hf : Finset.univ.fold IntOp.minsi 2147483647#32 (fun k : Fin 8 => k0_pay13 g (ix2 t k)) = BitVec.ofNat 32 b.val := by
    refine Eq.trans ?_ (fold_first (P := fun e => e ≠ a ∧ g (ix2 t e) = g (ix2 t b)) (a := b) ⟨h.ne, rfl⟩ fun e he => ?_)
    · exact congrArg (Finset.univ.fold IntOp.minsi 2147483647#32) (funext fun k => pay13_at h hg k)
    · rcases h.sec e he.1 with h' | h'
      · exact absurd he.2 h'.ne
      · exact h'.2
  change Scalar.select (IntOp.cmpi .eq (k0_pay10 g (ix2 t 0)) _) (Ideal.div 1 (1 + Ideal.exp (k0_pay12 g (ix2 t 0) - k0_pay9 g (ix2 t 0)))) 0
    + Scalar.select (IntOp.cmpi .eq (Finset.univ.fold IntOp.minsi 2147483647#32 (fun k : Fin 8 => k0_pay13 g (ix2 t k))) _)
        (Ideal.div (Ideal.exp (k0_pay12 g (ix2 t 0) - k0_pay9 g (ix2 t 0))) (1 + Ideal.exp (k0_pay12 g (ix2 t 0) - k0_pay9 g (ix2 t 0)))) 0 = _
  rw [hf, pay9_at h, pay10_at h, pay12_at h, cmpi_eq_bit, cmpi_eq_bit, select_ite, select_ite, weight_congr]
  exact congrArg₂ (· + ·) (if_congr (ofNat_eq_iff _ _) rfl rfl) (if_congr (ofNat_eq_iff _ _) rfl rfl)

end Cert.Moe

end
-- ==== Proof.KGates.lean ====
/- The kernel's gates: with the tokens and the router spread over a pair of devices, what every device holds after the exchange
   is all the tokens and all the gates. -/
module

public import proofs.«01_k».proof.Proof.Protocol
public import proofs.«01_k».proof.Proof.KRoute

@[expose] public section

noncomputable section

namespace Cert.Moe

open Cert.KernelIdeal Cert.KernelIdeal.Gen
open Idealize.ShloMosaic Idealize.ShloMosaic.TcCoe Idealize.SL.Sem

/-- A device's first coordinate. -/
def half (c : Dev nD) : Fin 2 := ⟨c.val / 16, by have : c.val < 32 := c.isLt; omega⟩

/-- Row `i` of the half `h` of the tokens; expert `e` of the half `h` of the experts. -/
def tok (h : Fin 2) (i : Fin 512) : Fin 1024 := ⟨512 * h.val + i.val, by omega⟩
def exp8 (h : Fin 2) (e : Fin 4) : Fin 8 := ⟨4 * h.val + e.val, by omega⟩

/-- Each device holds its half of the tokens, of the router's columns and of the experts. -/
structure Shards (m : (ℓ : Loc nD τ sig) → Buf (Elt Ideal) ℓ) (I : Inputs) : Prop where
  x : ∀ (c : Dev nD) (i : Fin 512) (k : Fin 1024), (xAt m c (ix2 i k) : EReal) = I.X (tok (half c) i) k
  r : ∀ (c : Dev nD) (k : Fin 1024) (e : Fin 4), (rAt m c (ix2 k e) : EReal) = I.R k (exp8 (half c) e)
  w1 : ∀ (c : Dev nD) (e : Fin 4) (k : Fin 1024) (f : Fin 2048), (w1At m c e (ix3 0 k f) : EReal) = I.W1 (exp8 (half c) e) k f
  w2 : ∀ (c : Dev nD) (e : Fin 4) (f : Fin 2048) (d : Fin 1024), (w2At m c e (ix3 0 f d) : EReal) = I.W2 (exp8 (half c) e) f d

theorem half_lo (c : Dev nD) : half (lo c) = 0 := by revert c; decide
theorem half_hi (c : Dev nD) : half (hi c) = 1 := by revert c; decide
theorem half_cases (c : Dev nD) : (half c = 0 ∧ half (peer c) = 1) ∨ (half c = 1 ∧ half (peer c) = 0) := by revert c; decide

variable {m : (ℓ : Loc nD τ sig) → Buf (Elt Ideal) ℓ} {I : Inputs}

/-- Reading two stacked blocks of rows whose rows are known by their tokens. -/
theorem rows_at {n : ℕ} {α : Type} (a b : (⟨2, ![512, n]⟩ : Shape).Idx → α) (f : Fin 1024 → Fin n → α)
    (ha : ∀ i k, a (ix2 i k) = f (tok 0 i) k) (hb : ∀ i k, b (ix2 i k) = f (tok 1 i) k) (t : Fin 1024) (k : Fin n) :
    rows a b (ix2 t k) = f t k := by
  unfold rows
  split
  · next h =>
    refine (ha _ _).trans (congrArg (fun s => f s k) (Fin.ext ?_))
    show 512 * 0 + t.val = t.val
    omega
  · next h =>
    have h' : ¬ t.val < 512 := h
    refine (hb _ _).trans (congrArg (fun s => f s k) (Fin.ext ?_))
    show 512 * 1 + (t.val - 512) = t.val
    omega

theorem pay2_at (v : Vec Ideal S512x1024 .f32) (i : Fin 512) (k : Fin 1024) : (k0_pay2 v (ix2 i k) : EReal) = v (ix2 i k) := by
  unfold k0_pay2
  simp only [pointwise]

/-- After the exchange a device holds every token. -/
theorem xf_at (H : Shards m I) (c : Dev nD) (t k : Fin 1024) : (xfAt m c (ix2 t k) : EReal) = I.X t k := by
  unfold xfAt
  refine rows_at (xbAt m (lo c)) (xbAt m (hi c)) (fun t k => (I.X t k : EReal)) (fun i k => ?_) (fun i k => ?_) t k
  · unfold xbAt
    rw [pay2_at, H.x, half_lo]
  · unfold xbAt
    rw [pay2_at, H.x, half_hi]

theorem pay3_at (v : Vec Ideal S1024x4 .f32) (k : Fin 1024) (e : Fin 4) : (k0_pay3 v (ix3 0 k e) : EReal) = v (ix2 k e) := by
  unfold k0_pay3
  simp only [pointwise]

/-- The gates of a device's own tokens for the pair's eight experts. -/
theorem pay7_at (x : Vec Ideal S512x1024 .f32) (r s : Vec Ideal S1x1024x4 .f32) (i : Fin 512) (e : Fin 8) :
    (k0_pay8 (k0_pay7 x r x s) (ix2 i e) : EReal)
      = if h : e.val < 4 then ∑ k : Fin 1024, x (ix2 i k) * r (ix3 0 k ⟨e.val, h⟩)
        else ∑ k : Fin 1024, x (ix2 i k) * s (ix3 0 k ⟨e.val - 4, by omega⟩) := by
  unfold k0_pay8 k0_pay7
  simp only [pointwise]
  by_cases h : e.val < 4
  · rw [dif_pos h, dif_pos h, zero_add]
  · rw [dif_neg h, dif_neg h, zero_add]
    exact Finset.sum_congr rfl fun k _ => rfl

/-- The gates that a device computes for its own tokens, -/
theorem gb_at (H : Shards m I) (c : Dev nD) (i : Fin 512) (e : Fin 8) : (gbAt m c (ix2 i e) : EReal) = I.gate (tok (half c) i) e := by
  unfold gbAt
  rw [pay7_at]
  unfold Inputs.gate rslot
  by_cases h : e.val < 4
  · rw [dif_pos h]
    refine Finset.sum_congr rfl fun k _ => ?_
    rw [H.x, pay3_at, if_pos rfl, H.r, half_lo]
    refine congrArg (fun e => I.X _ k * I.R k e) (Fin.ext ?_)
    show 4 * 0 + e.val = e.val
    omega
  · rw [dif_neg h]
    refine Finset.sum_congr rfl fun k _ => ?_
    rw [H.x, pay3_at, if_neg (by decide), H.r, half_hi]
    refine congrArg (fun e => I.X _ k * I.R k e) (Fin.ext ?_)
    show 4 * 1 + (e.val - 4) = e.val
    omega

/-- and, after the second exchange, those of all tokens. -/
theorem g_at (H : Shards m I) (c : Dev nD) (t : Fin 1024) (e : Fin 8) : (gAt m c (ix2 t e) : EReal) = I.gate t e := by
  unfold gAt
  refine rows_at (gbAt m (lo c)) (gbAt m (hi c)) (fun t e => (I.gate t e : EReal)) (fun i e => ?_) (fun i e => ?_) t e
  · rw [gb_at H, half_lo]
  · rw [gb_at H, half_hi]

end Cert.Moe

end
-- ==== Proof.KPlaces.lean ====
/- The kernel's running counts: the weights and the choices turned by the identity matrix, the counts by the triangular one, and
   each token's place with an expert as a word. -/
module

public import proofs.«01_k».proof.Proof.KGates

@[expose] public section

noncomputable section

namespace Cert.Moe

open Cert.KernelIdeal Cert.KernelIdeal.Gen
open Idealize.ShloMosaic Idealize.ShloMosaic.TcCoe Idealize.SL.Sem
open Idealize.ShloMosaic.ValueIdx (select_one select_zero eq_zero_of_ne_one)

variable {m : (ℓ : Loc nD τ sig) → Buf (Elt Ideal) ℓ} {I : Inputs}

/-- A bit as a number. -/
theorem bit_float (P : Prop) [Decidable P] :
    (FloatOps.sitofp (F := Ideal) .f32 ((BitVec.ofBool (decide P)).setWidth 32) : EReal) = if P then 1 else 0 := by
  by_cases h : P
  · rw [if_pos h, decide_eq_true h]; show (((1 : ℤ) : ℝ) : EReal) = 1; simp
  · rw [if_neg h, decide_eq_false h]; show (((0 : ℤ) : ℝ) : EReal) = 0; simp

theorem word_eq_iff {x y : ℕ} (hx : x < 2048) (hy : y < 2048) : (BitVec.ofNat 32 x = BitVec.ofNat 32 y) ↔ x = y := by
  constructor
  · intro h
    have := congrArg BitVec.toNat h
    simp only [BitVec.toNat_ofNat] at this
    omega
  · intro h; rw [h]

theorem cmpi_sle_word {x y : ℕ} (hx : x < 2048) (hy : y < 2048) :
    IntOp.cmpi .sle (BitVec.ofNat 32 x) (BitVec.ofNat 32 y) = BitVec.ofBool (decide (x ≤ y)) := by
  have hi : ∀ z : ℕ, z < 2048 → (BitVec.ofNat 32 z).toInt = z := fun z hz => by
    rw [BitVec.toInt_eq_toNat_of_lt (by simp only [BitVec.toNat_ofNat]; omega)]; simp only [BitVec.toNat_ofNat]; omega
  unfold IntOp.cmpi
  show BitVec.ofBool (decide ((BitVec.ofNat 32 x).toInt ≤ (BitVec.ofNat 32 y).toInt)) = _
  rw [hi x hx, hi y hy]
  simp only [Nat.cast_le]

theorem row_word (i j : Fin 1024) :
    BitVec.ofNat 32 (List.foldl (fun k a => k * (![1024, 1024] : Fin 2 → ℕ) a + ((ix2 i j : (⟨2, ![1024, 1024]⟩ : Shape).Idx) a).val) 0 [0])
      = BitVec.ofNat 32 i.val := by
  show BitVec.ofNat 32 (0 * 1024 + i.val) = _
  rw [Nat.zero_mul, Nat.zero_add]

/-- The identity and the triangular matrix. -/
theorem pay6_at (i j : Fin 1024) : (k0_pay6 (F := Ideal) k0_pay5 (ix3 0 i j) : EReal) = if i = j then 1 else 0 := by
  unfold k0_pay6 k0_pay5
  simp only [pointwise]
  rw [row_word, lane_word, cmpi_eq_bit, bit_float]
  exact if_congr ((word_eq_iff (by omega) (by omega)).trans Fin.ext_iff.symm) rfl rfl

theorem pay4_at (i j : Fin 1024) : (k0_pay4 (F := Ideal) (ix3 0 i j) : EReal) = if i ≤ j then 1 else 0 := by
  unfold k0_pay4
  simp only [pointwise]
  rw [row_word, lane_word, cmpi_sle_word (by omega) (by omega), bit_float]
  exact if_congr Fin.le_def.symm rfl rfl

variable (v2 : BitVec 32) (v171 : FVec Ideal S1024x1 .f32) (v177 : IVec S1024x1 32) (v183 : FVec Ideal S1024x1 .f32) (v187 : IVec S1024x8 32)

/-- The product with a column of the identity. -/
theorem sum_unit (f : Fin 1024 → EReal) (t : Fin 1024) :
    (0 : EReal) + ∑ s : Fin 1024, f s * (k0_pay6 (F := Ideal) k0_pay5 (ix3 0 s t) : EReal) = f t := by
  rw [zero_add, Finset.sum_eq_single t]
  · rw [pay6_at, if_pos rfl, mul_one]
  · intro s _ hs; rw [pay6_at, if_neg hs, mul_zero]
  · intro h; exact absurd (Finset.mem_univ t) h

theorem pay15_at (j : Fin 4) (t : Fin 1024) :
    (k0_pay15 v2 v171 v177 v183 v187 (k0_pay6 (F := Ideal) k0_pay5) (ix2 j t) : EReal) = k0_pay14 v2 v171 v177 v183 v187 (ix2 t j) := by
  unfold k0_pay15
  simp only [pointwise]
  exact sum_unit (fun s => k0_pay14 v2 v171 v177 v183 v187 (ix2 s j)) t

theorem pay16_at (j : Fin 4) (t : Fin 1024) :
    (k0_pay16 v2 v171 v177 v183 v187 (k0_pay6 (F := Ideal) k0_pay5) (ix2 j t) : EReal) = if (0 : EReal) < k0_pay14 v2 v171 v177 v183 v187 (ix2 t j) then 1 else 0 := by
  unfold k0_pay16
  simp only [pointwise]
  refine (sum_unit (fun s => FloatOps.sitofp (F := Ideal) .f32 ((BitVec.ofBool (decide ((0 : EReal) < k0_pay14 v2 v171 v177 v183 v187 (ix2 s j)))).setWidth 32)) t).trans ?_
  exact bit_float _

theorem pay17_at (j : Fin 4) (t : Fin 1024) :
    (k0_pay17 v2 v171 v177 v183 v187 (k0_pay6 (F := Ideal) k0_pay5) (k0_pay4 (F := Ideal)) (ix2 j t) : EReal)
      = ∑ s : Fin 1024, (if (0 : EReal) < k0_pay14 v2 v171 v177 v183 v187 (ix2 s j) then 1 else 0) * (if s ≤ t then 1 else 0) := by
  unfold k0_pay17
  simp only [pointwise]
  rw [zero_add]
  refine Finset.sum_congr rfl fun s _ => ?_
  rw [pay16_at, pay4_at]

theorem pay18_at (j : Fin 4) (t : Fin 1024) :
    k0_pay18 v2 v171 v177 v183 v187 (k0_pay6 (F := Ideal) k0_pay5) (ix2 j t) = BitVec.ofBool (decide ((0 : EReal) < k0_pay14 v2 v171 v177 v183 v187 (ix2 t j))) := by
  unfold k0_pay18
  simp only [pointwise]
  rw [pay16_at]
  by_cases h : (0 : EReal) < k0_pay14 v2 v171 v177 v183 v187 (ix2 t j)
  · rw [if_pos h, decide_eq_true h, decide_eq_true (one_pos : (0 : EReal) < 1)]
  · rw [if_neg h, decide_eq_false h, decide_eq_false (lt_irrefl (0 : EReal))]

theorem ofBits_neg_one : Ideal.ofBits .f32 0xBF800000#32 = ((-1 : ℝ) : EReal) := by
  simp [Ideal.ofBits, Ideal.ieee, -EReal.coe_mul, -EReal.coe_neg]
  norm_num

theorem fptosi_int {n : ℤ} (hn : n < 2048) (hn' : -1 ≤ n) : FloatOps.fptosi (F := Ideal) (φ := .f32) 32 ((n : ℝ) : EReal) = BitVec.ofInt 32 n := by
  show BitVec.ofInt 32 (Ideal.toIntClamped _ _ _) = _
  rw [Ideal.toIntClamped_coe, Int.floor_intCast, Int.ceil_intCast, ite_self]
  refine congrArg (BitVec.ofInt 32) ?_
  rw [min_eq_right (by norm_num; omega), max_eq_right (by norm_num; omega)]

theorem pay19_at (cnt : FVec Ideal S4x1024 .f32) (hit : IVec S4x1024 1) (j : Fin 4) (t : Fin 1024) :
    k0_pay19 cnt hit (ix2 j t) = FloatOps.fptosi (F := Ideal) (φ := .f32) 32 (Scalar.select (hit (ix2 j t)) ((cnt (ix2 j t) : EReal) - 1) ((-1 : ℝ) : EReal)) := by
  unfold k0_pay19
  simp only [pointwise]
  rw [ofBits_neg_one]

/-! ## In terms of what is chosen -/

theorem ixw_half (c : Dev nD) : ixw c = BitVec.ofNat 32 (half c).val := by revert c; decide

theorem row_gate (H : Shards m I) (c : Dev nD) (t : Fin 1024) : row (gAt m c) t = I.gate t := funext fun e => g_at H c t e

variable (C : Choice I)

theorem routed_at (H : Shards m I) (c : Dev nD) (t : Fin 1024) (j : Fin 4) :
    (k0_pay14 (ixw c) (k0_pay9 (gAt m c)) (k0_pay10 (gAt m c)) (k0_pay12 (gAt m c)) (k0_pay13 (gAt m c)) (ix2 t j) : EReal)
      = C.wt t (exp8 (half c) j) := by
  have h : TopTwo (row (gAt m c) t) (C.fst t) (C.snd t) := by rw [row_gate H]; exact C.top t
  rw [ixw_half]
  refine (pay14_at h (fun e => ?_) (half c) j).trans ?_
  · rw [g_at H]
    obtain ⟨x, hx⟩ := C.fin t e
    rw [hx]; exact EReal.bot_lt_coe x
  · rw [row_gate H]; rfl

theorem cw_at (H : Shards m I) (c : Dev nD) (j : Fin 4) (t : Fin 1024) : (cwAt m c (ix2 j t) : EReal) = C.wt t (exp8 (half c) j) := by
  unfold cwAt
  rw [pay15_at, routed_at C H]

/-- A finite sum of real numbers is one. -/
theorem coe_sum {n : ℕ} (f : Fin n → ℝ) : ((∑ s, f s : ℝ) : EReal) = ∑ s, (f s : EReal) :=
  map_sum (⟨⟨fun x : ℝ => (x : EReal), EReal.coe_zero⟩, EReal.coe_add⟩ : ℝ →+ EReal) f Finset.univ

/-- The product of two bits. -/
theorem both_bits (P Q : Prop) [Decidable P] [Decidable Q] :
    ((if P then 1 else 0 : EReal) * (if Q then 1 else 0)) = (((if Q ∧ P then 1 else 0 : ℕ) : ℝ) : EReal) := by
  by_cases hP : P <;> by_cases hQ : Q <;> simp [hP, hQ]

theorem hit_at (H : Shards m I) (c : Dev nD) (j : Fin 4) (t : Fin 1024) :
    hitAt m c (ix2 j t) = BitVec.ofBool (decide (C.chosen t (exp8 (half c) j))) := by
  unfold hitAt
  rw [pay18_at, routed_at C H]
  exact congrArg BitVec.ofBool (decide_eq_decide.mpr (C.wt_pos t _))

theorem cnt_at (H : Shards m I) (c : Dev nD) (j : Fin 4) (t : Fin 1024) :
    (cntAt m c (ix2 j t) : EReal) = ((C.count t (exp8 (half c) j) : ℝ) : EReal) := by
  unfold cntAt
  rw [pay17_at]
  unfold Choice.count
  rw [Nat.cast_sum, coe_sum]
  refine Finset.sum_congr rfl fun s _ => ?_
  rw [routed_at C H]
  rw [if_congr (C.wt_pos s (exp8 (half c) j)) rfl rfl]
  exact both_bits _ _

theorem pos_at (H : Shards m I) (c : Dev nD) (j : Fin 4) (t : Fin 1024) :
    posAt m c (ix2 j t) = if C.chosen t (exp8 (half c) j) then BitVec.ofInt 32 ((C.count t (exp8 (half c) j) : ℤ) - 1) else BitVec.ofInt 32 (-1) := by
  unfold posAt
  rw [pay19_at, hit_at C H, cnt_at C H, select_ite]
  have hc := C.count_le t (exp8 (half c) j)
  split
  · next h =>
    have h1 := C.count_pos h
    rw [← fptosi_int (by omega) (by omega)]
    refine congrArg _ ?_
    push_cast
    rfl
  · rw [← fptosi_int (by omega) (by omega)]
    refine congrArg _ ?_
    push_cast
    rfl

/-- A slot is the place of a token with an expert exactly if the token chose it and its count is one more. -/
theorem slot_iff (H : Shards m I) (c : Dev nD) (j : Fin 4) (t : Fin 1024) (s : Fin 320) :
    BitVec.ofNat 32 s.val = posAt m c (ix2 j t) ↔ (C.chosen t (exp8 (half c) j) ∧ C.count t (exp8 (half c) j) = s.val + 1) := by
  rw [pos_at C H]
  have hc := C.count_le t (exp8 (half c) j)
  by_cases h : C.chosen t (exp8 (half c) j)
  · rw [if_pos h]
    have h1 := C.count_pos h
    obtain ⟨n, hn⟩ : ∃ n, C.count t (exp8 (half c) j) = n + 1 := ⟨_, (Nat.sub_add_cancel h1).symm⟩
    rw [hn]
    have hz : ((n + 1 : ℕ) : ℤ) - 1 = (n : ℤ) := by push_cast; ring
    rw [hz, BitVec.ofInt_natCast, word_eq_iff (by omega) (by omega)]
    constructor
    · intro h2; exact ⟨h, by omega⟩
    · intro h2; omega
  · rw [if_neg h]
    refine iff_of_false (fun h2 => ?_) (fun h2 => h h2.1)
    have := congrArg BitVec.toNat h2
    have h3 : (BitVec.ofInt 32 (-1)).toNat = 4294967295 := by decide
    rw [h3, BitVec.toNat_ofNat] at this
    omega

end Cert.Moe

end
-- ==== Proof.KExpert.lean ====
/- One expert of the kernel: the tokens at its places are gathered by a one-hot matrix, put through the two products and scattered
   back with their weights; and the four experts of a device one after another. -/
module

public import proofs.«01_k».proof.Proof.KPlaces

@[expose] public section

noncomputable section

namespace Cert.Moe

open Cert.KernelIdeal Cert.KernelIdeal.Gen
open Idealize.ShloMosaic Idealize.ShloMosaic.TcCoe Idealize.SL.Sem

variable {m : (ℓ : Loc nD τ sig) → Buf (Elt Ideal) ℓ} {I : Inputs} (C : Choice I)

/-- What one expert adds to the partial result, at an index. -/
theorem pay30_at (acc : FVec Ideal S1024x1024 .f32) (pw : FVec Ideal S320x1024 .f32) (p : FVec Ideal S320x1024 .bf16)
    (xf : Vec Ideal S1024x1024 .bf16) (w1 : Vec Ideal S1x1024x2048 .f32) (w2 : Vec Ideal S1x2048x1024 .f32) (t d : Fin 1024) :
    (k0_pay30 acc pw p xf w1 w2 (ix2 t d) : EReal) = acc (ix2 t d) + ∑ s : Fin 320, (pw (ix2 s t) : EReal)
      * ∑ f : Fin 2048, max (∑ k : Fin 1024, (∑ u : Fin 1024, (p (ix2 s u) : EReal) * xf (ix2 u k)) * w1 (ix3 0 k f)) 0 * w2 (ix3 0 f d) := by
  unfold k0_pay30
  simp only [pointwise, zero_add]

/-- The one-hot matrix of an expert's places gathers one token per place, and scattering gives each token its own. -/
theorem collapse (e : Fin 8) (bit : Fin 320 → Fin 1024 → EReal)
    (hbit : ∀ s t, bit s t = if C.chosen t e ∧ C.count t e = s.val + 1 then 1 else 0) (t d : Fin 1024) :
    ∑ s : Fin 320, (bit s t * C.wt t e)
      * ∑ f : Fin 2048, max (∑ k : Fin 1024, (∑ u : Fin 1024, bit s u * I.X u k) * I.W1 e k f) 0 * I.W2 e f d
    = if C.kept t e then C.wt t e * I.ffn e t d else 0 := by
  by_cases hk : C.kept t e
  · rw [if_pos hk]
    have h1 := C.count_pos hk.1
    have h2 := hk.2
    rw [Finset.sum_eq_single (⟨C.count t e - 1, by omega⟩ : Fin 320)]
    · have hu : ∀ u, bit ⟨C.count t e - 1, by omega⟩ u = if u = t then 1 else 0 := fun u => by
        rw [hbit]
        refine if_congr ⟨fun h => C.count_inj h.1 hk.1 (by have := h.2; dsimp only at this; omega), fun h => ?_⟩ rfl rfl
        subst h
        exact ⟨hk.1, by dsimp only; omega⟩
      have hsum : ∀ k, ∑ u : Fin 1024, bit ⟨C.count t e - 1, by omega⟩ u * I.X u k = I.X t k := fun k => by
        rw [Finset.sum_eq_single t]
        · rw [hu, if_pos rfl, one_mul]
        · intro u _ h; rw [hu, if_neg h, zero_mul]
        · intro h; exact absurd (Finset.mem_univ t) h
      rw [hu, if_pos rfl, one_mul]
      unfold Inputs.ffn
      simp only [hsum]
    · intro s _ hs
      rw [hbit, if_neg, zero_mul, zero_mul]
      exact fun h => hs (Fin.ext (by dsimp only; omega))
    · intro h; exact absurd (Finset.mem_univ _) h
  · rw [if_neg hk]
    refine Finset.sum_eq_zero fun s _ => ?_
    rw [hbit, if_neg, zero_mul, zero_mul]
    exact fun h => hk ⟨h.1, by have := s.isLt; omega⟩

/-- One expert's share of the result. -/
def share (e : Fin 8) (t d : Fin 1024) : EReal := if C.kept t e then C.wt t e * I.ffn e t d else 0

/-- An expert of the kernel with its one-hot matrix read off the places adds its share. -/
theorem expert_at (H : Shards m I) (c : Dev nD) (j : Fin 4) (acc : FVec Ideal S1024x1024 .f32) (pw : FVec Ideal S320x1024 .f32)
    (p : FVec Ideal S320x1024 .bf16)
    (hp : ∀ s t, (p (ix2 s t) : EReal) = if BitVec.ofNat 32 s.val = posAt m c (ix2 j t) then 1 else 0)
    (hpw : ∀ s t, (pw (ix2 s t) : EReal) = p (ix2 s t) * cwAt m c (ix2 j t)) (t d : Fin 1024) :
    (k0_pay30 acc pw p (xfAt m c) (w1At m c j) (w2At m c j) (ix2 t d) : EReal) = acc (ix2 t d) + share C (exp8 (half c) j) t d := by
  rw [pay30_at]
  refine congrArg (fun z : EReal => (acc (ix2 t d) : EReal) + z) ?_
  refine Eq.trans ?_ (collapse C (exp8 (half c) j) (fun s t => p (ix2 s t)) (fun s t => (hp s t).trans (if_congr (slot_iff C H c j t s) rfl rfl)) t d)
  refine Finset.sum_congr rfl fun s _ => ?_
  rw [hpw, cw_at C H]
  simp only [xf_at H, H.w1, H.w2]

theorem slot_word (s : Fin 320) (t : Fin 1024) : lane (ix2 s t) = BitVec.ofNat 32 s.val := by
  unfold lane
  simp only [pointwise]
  show BitVec.ofNat 32 (0 * 320 + s.val) = _
  rw [Nat.zero_mul, Nat.zero_add]

/-! ## The four experts of a device -/

theorem first_axis_word (s : Fin 320) (t : Fin 1024) :
    BitVec.ofNat 32 (List.foldl (fun k a => k * (![320, 1024] : Fin 2 → ℕ) a + ((ix2 s t : (⟨2, ![320, 1024]⟩ : Shape).Idx) a).val) 0 [0])
      = BitVec.ofNat 32 s.val := by
  show BitVec.ofNat 32 (0 * 320 + s.val) = _
  rw [Nat.zero_mul, Nat.zero_add]

/-- The one-hot matrices: a row of the places compared with the slots; and with a row of the weights. -/
theorem hot0 (c : Dev nD) (s : Fin 320) (t : Fin 1024) :
    (k0_pay21 (cntAt m c) (hitAt m c) (ix2 s t) : EReal) = if BitVec.ofNat 32 s.val = posAt m c (ix2 0 t) then 1 else 0 := by
  unfold k0_pay21
  simp only [pointwise]
  rw [first_axis_word, cmpi_eq_bit, bit_float]
  exact congrArg (fun q : Fin 1024 => if BitVec.ofNat 32 s.val = posAt m c (ix2 0 q) then (1 : EReal) else 0) (Fin.ext (Nat.zero_add t.val))

theorem put0 (c : Dev nD) (s : Fin 320) (t : Fin 1024) :
    (k0_pay22 (cwAt m c) (cntAt m c) (hitAt m c) (ix2 s t) : EReal) = k0_pay21 (cntAt m c) (hitAt m c) (ix2 s t) * cwAt m c (ix2 0 t) := by
  unfold k0_pay22
  simp only [pointwise]
  exact congrArg (fun q : Fin 1024 => (k0_pay21 (cntAt m c) (hitAt m c) (ix2 s t) : EReal) * cwAt m c (ix2 0 q)) (Fin.ext (Nat.zero_add t.val))

/-- The second expert's, which the kernel writes in one step with its products. -/
def hotMid (pos : IVec S4x1024 32) (ln : IVec S320x1024 32) : FVec Ideal S320x1024 .f32 :=
  sitofp .f32 (extui 32 (cmpi .eq ln (broadcastTo S320x1024 (extractStridedSlice S1x1024 ![1, 0] pos slices_S4x1024_o1_0_S1x1024) broadcasts_S1x1024_S320x1024)) natLt_1_32)
def putMid (cw : FVec Ideal S4x1024 .f32) (pos : IVec S4x1024 32) (ln : IVec S320x1024 32) : FVec Ideal S320x1024 .f32 :=
  mulf (hotMid pos ln) (broadcastTo S320x1024 (extractStridedSlice S1x1024 ![1, 0] cw slices_S4x1024_o1_0_S1x1024) broadcasts_S1x1024_S320x1024)

theorem hot1 (pos : IVec S4x1024 32) (s : Fin 320) (t : Fin 1024) :
    (hotMid pos lane (ix2 s t) : EReal) = if BitVec.ofNat 32 s.val = pos (ix2 1 t) then 1 else 0 := by
  unfold hotMid
  simp only [pointwise]
  rw [slot_word, cmpi_eq_bit, bit_float]
  exact congrArg (fun q : Fin 1024 => if BitVec.ofNat 32 s.val = pos (ix2 1 q) then (1 : EReal) else 0) (Fin.ext (Nat.zero_add t.val))

theorem put1 (cw : FVec Ideal S4x1024 .f32) (pos : IVec S4x1024 32) (s : Fin 320) (t : Fin 1024) :
    (putMid cw pos lane (ix2 s t) : EReal) = hotMid pos lane (ix2 s t) * cw (ix2 1 t) := by
  unfold putMid
  simp only [pointwise]
  exact congrArg (fun q : Fin 1024 => (hotMid pos lane (ix2 s t) : EReal) * cw (ix2 1 q)) (Fin.ext (Nat.zero_add t.val))

theorem hot2 (pos : IVec S4x1024 32) (s : Fin 320) (t : Fin 1024) :
    (k0_pay27 (F := Ideal) pos lane (ix2 s t) : EReal) = if BitVec.ofNat 32 s.val = pos (ix2 2 t) then 1 else 0 := by
  unfold k0_pay27
  simp only [pointwise]
  rw [slot_word, cmpi_eq_bit, bit_float]
  exact congrArg (fun q : Fin 1024 => if BitVec.ofNat 32 s.val = pos (ix2 2 q) then (1 : EReal) else 0) (Fin.ext (Nat.zero_add t.val))

theorem put2 (cw : FVec Ideal S4x1024 .f32) (pos : IVec S4x1024 32) (s : Fin 320) (t : Fin 1024) :
    (k0_pay28 cw pos lane (ix2 s t) : EReal) = k0_pay27 (F := Ideal) pos lane (ix2 s t) * cw (ix2 2 t) := by
  unfold k0_pay28
  simp only [pointwise]
  exact congrArg (fun q : Fin 1024 => (k0_pay27 (F := Ideal) pos lane (ix2 s t) : EReal) * cw (ix2 2 q)) (Fin.ext (Nat.zero_add t.val))

theorem hot3 (pos : IVec S4x1024 32) (s : Fin 320) (t : Fin 1024) :
    (k0_pay31 (F := Ideal) pos lane (ix2 s t) : EReal) = if BitVec.ofNat 32 s.val = pos (ix2 3 t) then 1 else 0 := by
  unfold k0_pay31
  simp only [pointwise]
  rw [slot_word, cmpi_eq_bit, bit_float]
  exact congrArg (fun q : Fin 1024 => if BitVec.ofNat 32 s.val = pos (ix2 3 q) then (1 : EReal) else 0) (Fin.ext (Nat.zero_add t.val))

theorem put3 (cw : FVec Ideal S4x1024 .f32) (pos : IVec S4x1024 32) (s : Fin 320) (t : Fin 1024) :
    (k0_pay32 cw pos lane (ix2 s t) : EReal) = k0_pay31 (F := Ideal) pos lane (ix2 s t) * cw (ix2 3 t) := by
  unfold k0_pay32
  simp only [pointwise]
  exact congrArg (fun q : Fin 1024 => (k0_pay31 (F := Ideal) pos lane (ix2 s t) : EReal) * cw (ix2 3 q)) (Fin.ext (Nat.zero_add t.val))

/-! ### After one, two, three and four experts -/

theorem o1_form (c : Dev nD) : o1At m c = k0_pay30 k0_pay20 (k0_pay22 (cwAt m c) (cntAt m c) (hitAt m c))
    (truncf .bf16 (k0_pay21 (cntAt m c) (hitAt m c)) bitsLt_bf16_f32) (xfAt m c) (w1At m c 0) (w2At m c 0) := rfl

theorem o2_form (c : Dev nD) : o2At m c = k0_pay30 (o1At m c) (putMid (cwAt m c) (posAt m c) lane)
    (truncf .bf16 (hotMid (posAt m c) lane) bitsLt_bf16_f32) (xfAt m c) (w1At m c 1) (w2At m c 1) := rfl

theorem of_form (c : Dev nD) : ofAt m c = shapeCast S1024x1024 (k0_pay30 (o3At m c) (k0_pay32 (cwAt m c) (posAt m c) lane)
    (truncf .bf16 (k0_pay31 (posAt m c) lane) bitsLt_bf16_f32) (xfAt m c) (w1At m c 3) (w2At m c 3)) shapeCasts_S1024x1024_S1024x1024 := rfl

theorem o1_at (H : Shards m I) (c : Dev nD) (t d : Fin 1024) : (o1At m c (ix2 t d) : EReal) = share C (exp8 (half c) 0) t d := by
  rw [o1_form, expert_at C H c 0 _ _ (truncf .bf16 (k0_pay21 (cntAt m c) (hitAt m c)) bitsLt_bf16_f32) (fun s t => hot0 c s t) (fun s t => put0 c s t)]
  have hz : (k0_pay20 (F := Ideal) (ix2 t d) : EReal) = 0 := by unfold k0_pay20; simp only [pointwise]
  rw [hz, zero_add]

theorem o2_at (H : Shards m I) (c : Dev nD) (t d : Fin 1024) :
    (o2At m c (ix2 t d) : EReal) = share C (exp8 (half c) 0) t d + share C (exp8 (half c) 1) t d := by
  rw [o2_form, expert_at C H c 1 _ _ (truncf .bf16 (hotMid (posAt m c) lane) bitsLt_bf16_f32) (fun s t => hot1 _ s t) (fun s t => put1 _ _ s t), o1_at C H]

theorem o3_at (H : Shards m I) (c : Dev nD) (t d : Fin 1024) :
    (o3At m c (ix2 t d) : EReal) = share C (exp8 (half c) 0) t d + share C (exp8 (half c) 1) t d + share C (exp8 (half c) 2) t d := by
  unfold o3At
  rw [expert_at C H c 2 _ _ (k0_pay29 (posAt m c) lane) (fun s t => hot2 _ s t) (fun s t => put2 _ _ s t), o2_at C H]

/-- A device's partial result: the shares of its four experts. -/
theorem of_at (H : Shards m I) (c : Dev nD) (t d : Fin 1024) :
    (ofAt m c (ix2 t d) : EReal) = ∑ j : Fin 4, share C (exp8 (half c) j) t d := by
  rw [of_form]
  simp only [pointwise]
  rw [expert_at C H c 3 _ _ (truncf .bf16 (k0_pay31 (posAt m c) lane) bitsLt_bf16_f32) (fun s t => hot3 _ s t) (fun s t => put3 _ _ s t), o3_at C H, Fin.sum_univ_four]

end Cert.Moe

end
-- ==== Proof.KOut.lean ====
/- The kernel's result on a device: its own partial result for its tokens and its peer's, the shares of all eight experts. -/
module

public import proofs.«01_k».proof.Proof.KExpert

@[expose] public section

noncomputable section

namespace Cert.Moe

open Cert.KernelIdeal Cert.KernelIdeal.Gen
open Idealize.ShloMosaic Idealize.ShloMosaic.TcCoe Idealize.SL.Sem

variable {m : (ℓ : Loc nD τ sig) → Buf (Elt Ideal) ℓ} {I : Inputs} (C : Choice I)

theorem off2_half (c : Dev nD) : k0_off2 c 0 = 512 * (half c).val := by revert c; decide
theorem off2_col (c : Dev nD) : k0_off2 c 1 = 0 := by revert c; decide
theorem off7_half (c : Dev nD) : k0_off7 c 0 = 512 * (half (peer c)).val := by revert c; decide
theorem off7_col (c : Dev nD) : k0_off7 c 1 = 0 := by revert c; decide

/-- Reading 512 rows of the partial results from row `512 * h` on. -/
theorem read_half (off : Fin 2 → ℕ) (inb : ∀ a, off a + S512x1024.size a ≤ S1024x1024.size a) (h : Fin 2) (h0 : off 0 = 512 * h.val) (h1 : off 1 = 0)
    (f : FVec Ideal S1024x1024 .f32) (r : Fin 512) (d : Fin 1024) :
    (ofM : Memref sig .tc .vmem S1024x1024 .f32).view.readAt (Elt Ideal) (Rect.unit (s := S1024x1024) off S512x1024.size inb).toLoadRect f (ix2 r d)
      = f (ix2 (tok h r) d) := by
  rw [View.readAt_rect, View.read_apply]
  show f ((Rect.unit (s := S1024x1024) off S512x1024.size inb).emb (ix2 r d)) = f (ix2 (tok h r) d)
  refine congrArg f (funext fun a => Fin.ext ?_)
  rw [Rect.emb_apply]
  fin_cases a
  · show off 0 + 1 * r.val = 512 * h.val + r.val
    rw [h0, Nat.one_mul]
  · show off 1 + 1 * d.val = d.val
    rw [h1, Nat.one_mul, Nat.zero_add]

theorem keep_at (c : Dev nD) (r : Fin 512) (d : Fin 1024) : keepAt m c (ix2 r d) = ofAt m c (ix2 (tok (half c) r) d) := by
  unfold keepAt
  exact read_half (k0_off2 c) _ (half c) (off2_half c) (off2_col c) _ r d

theorem pay34_at (v : Vec Ideal S512x1024 .f32) (r : Fin 512) (d : Fin 1024) : (k0_pay34 v (ix2 r d) : EReal) = v (ix2 r d) := by
  unfold k0_pay34
  simp only [pointwise]

theorem sb_at (c : Dev nD) (r : Fin 512) (d : Fin 1024) : (sbAt m (peer c) (ix2 r d) : EReal) = ofAt m (peer c) (ix2 (tok (half c) r) d) := by
  unfold sbAt
  rw [pay34_at]
  exact read_half (k0_off7 (peer c)) _ (half c) (by rw [off7_half, peer_peer]) (off7_col _) _ r d

theorem pay1_at (v : Vec Ideal S512x1024 .f32) (w : Vec Ideal S512x1024 .bf16) (r : Fin 512) (d : Fin 1024) :
    (k0_pay1 v w (ix2 r d) : EReal) = v (ix2 r d) + w (ix2 r d) := by
  unfold k0_pay1
  simp only [pointwise]

/-- The eight experts are the four of each half. -/
theorem sum_halves (f : Fin 8 → EReal) (c : Dev nD) :
    ∑ j : Fin 4, f (exp8 (half c) j) + ∑ j : Fin 4, f (exp8 (half (peer c)) j) = ∑ e, f e := by
  have h : ∑ e, f e = ∑ j : Fin 4, f (exp8 0 j) + ∑ j : Fin 4, f (exp8 1 j) := by
    rw [Fin.sum_univ_eight, Fin.sum_univ_four, Fin.sum_univ_four]
    show _ = f 0 + f 1 + f 2 + f 3 + (f 4 + f 5 + f 6 + f 7)
    simp only [add_assoc]
  rcases half_cases c with ⟨h1, h2⟩ | ⟨h1, h2⟩
  · rw [h1, h2, h]
  · rw [h1, h2, h, add_comm]

/-- The kernel's result. -/
theorem out_at (H : Shards m I) (c : Dev nD) (r : Fin 512) (d : Fin 1024) : (outAt m c (ix2 r d) : EReal) = C.out (tok (half c) r) d := by
  unfold outAt
  rw [pay1_at, keep_at, sb_at, of_at C H, of_at C H]
  exact sum_halves (fun e => share C e (tok (half c) r) d) c

end Cert.Moe

end
-- ==== Proof.RefTop.lean ====
/- The reference's two greatest gates of each token, by its stable sort. -/
module

public import proofs.«01_k».proof.Proof.Gen.ReferenceIdeal.Read
public import proofs.«01_k».proof.Proof.Spec
public import proofs.«01_k».proof.Proof.KPlaces
public import Idealize.ShloMosaic.Lib.Pointwise

@[expose] public section

noncomputable section

namespace Cert.Moe.Ref

open Cert.ReferenceIdeal Cert.ReferenceIdeal.Gen Cert.ReferenceIdeal.Read
open Idealize.ShloMosaic Cert.Moe

variable {t : Fin 1024} {a b : Fin 8}

theorem along_row (t : Fin 1024) (e k : Fin 8) :
    Shape.Idx.along (s := S1024x8) (ix2 t e) (1 : Fin 2) k = ix2 t k := by
  funext d
  unfold Shape.Idx.along
  fin_cases d
  · exact Function.update_of_ne (by decide) _ _
  · exact Function.update_self _ _ _

/-- The order by which the reference sorts, at a row. -/
theorem order_row (v : Vec Ideal S1024x8 .f32) (t : Fin 1024) :
    (fun k k' : Fin 8 => FloatOps.cmpfTotal (F := Ideal) (φ := .f32) .gt (v (ix2 t k)) (v (ix2 t k')) == 1#1)
      = fun k k' => decide ((v (ix2 t k') : EReal) < v (ix2 t k)) := by
  funext k k'
  show (BitVec.ofBool (decide ((v (ix2 t k') : EReal) < v (ix2 t k))) == 1#1) = _
  by_cases h : (v (ix2 t k') : EReal) < v (ix2 t k)
  · rw [decide_eq_true h]; rfl
  · rw [decide_eq_false h]; rfl

/-- Reading the sort's result at one place, given where the sort looks. -/
theorem sorted_row (v : Vec Ideal S1024x8 .f32) (t : Fin 1024) (at' : Fin 8 → S1024x8.Idx)
    (hat : ∀ k, at' k = ix2 t k) :
    (fun k k' : Fin 8 => FloatOps.cmpfTotal (F := Ideal) (φ := .f32) .gt (v (at' k)) (v (at' k')) == 1#1)
      = fun k k' => decide ((v (ix2 t k') : EReal) < v (ix2 t k)) := by
  rw [← order_row v t]
  funext k k'
  rw [hat k, hat k']

theorem topk_at (v : Vec Ideal S1024x8 .f32) (h : TopTwo (fun e => (v (ix2 t e) : EReal)) a b) (j : Fin 2) :
    (Host.topK S1024x2 1 (FloatOps.cmpfTotal (F := Ideal) (φ := .f32) .gt) v sliceFits_S1024x8_S1024x2).1 (ix2 t j)
      = v (ix2 t ((![a, b] : Fin 2 → Fin 8) j)) ∧
    (Host.topK S1024x2 1 (FloatOps.cmpfTotal (F := Ideal) (φ := .f32) .gt) v sliceFits_S1024x8_S1024x2).2 (ix2 t j)
      = BitVec.ofNat 32 ((![a, b] : Fin 2 → Fin 8) j).val := by
  have hs := h.sorted j
  have ht : (⟨0 + t.val, by omega⟩ : Fin 1024) = t := Fin.ext (Nat.zero_add _)
  have hj : (⟨0 + j.val, by omega⟩ : Fin 8) = j.castLE (by decide) := Fin.ext (Nat.zero_add _)
  have hat : ∀ k : Fin 8, Shape.Idx.along (s := S1024x8) (ix2 (⟨0 + t.val, by omega⟩ : Fin 1024) (⟨0 + j.val, by omega⟩ : Fin 8))
      (1 : Fin 2) k = ix2 t k := fun k => (along_row _ _ k).trans (by rw [ht])
  have hp := congrFun (congrArg sortedFrom (sorted_row v t _ hat)) (⟨0 + j.val, by omega⟩ : Fin 8)
  have hq := hp.trans ((congrArg (sortedFrom _) hj).trans hs)
  unfold Host.topK Host.sort2
  simp only [dif_pos (show 1 < S1024x8.rank by decide)]
  simp only [pointwise]
  refine ⟨?_, ?_⟩
  · refine congrArg v ((hat _).trans (congrArg (ix2 t) ?_))
    refine Eq.trans ?_ hq
    rfl
  · refine congrArg (BitVec.ofNat 32) (congrArg Fin.val ?_)
    refine (congrFun (hat _) 1).trans ?_
    refine Eq.trans ?_ hq
    rfl

/-- A fold over two places. -/
theorem fold_two {α : Type} (op : α → α → α) [Std.Commutative op] [Std.Associative op] (z : α) (v : Fin 2 → α) :
    (Finset.univ : Finset (Fin 2)).fold op z v = op (v 0) (op (v 1) z) := by
  have e : (Finset.univ : Finset (Fin 2)) = insert 0 {1} := by decide
  rw [e, Finset.fold_insert (by decide), Finset.fold_singleton]

section Values

variable (x0 : Vec Ideal S1024x1024 .f32) (x1 : Vec Ideal S1024x8 .f32)

theorem values_at (h : TopTwo (fun e => (val_main_v0 x0 x1 (ix2 t e) : EReal)) a b) (j : Fin 2) :
    (val_main_values x0 x1 (ix2 t j) : EReal) = val_main_v0 x0 x1 (ix2 t ((![a, b] : Fin 2 → Fin 8) j)) :=
  (topk_at _ h j).1

theorem indices_at (h : TopTwo (fun e => (val_main_v0 x0 x1 (ix2 t e) : EReal)) a b) (j : Fin 2) :
    val_main_indices x0 x1 (ix2 t j) = BitVec.ofNat 32 ((![a, b] : Fin 2 → Fin 8) j).val :=
  (topk_at _ h j).2

theorem v1_at (h : TopTwo (fun e => (val_main_v0 x0 x1 (ix2 t e) : EReal)) a b) :
    (val_main_v1 x0 x1 (ix1 t) : EReal) = val_main_v0 x0 x1 (ix2 t a) := by
  have hv0 := values_at x0 x1 h 0
  have hv1 := values_at x0 x1 h 1
  unfold val_main_v1
  simp only [pointwise]
  rw [fold_two]
  refine Eq.trans (congrArg₂ max hv0 (congrArg₂ max hv1 (ofBits_bot : _ = ⊥))) ?_
  rw [max_bot_right]
  exact max_eq_left (h.le b)

theorem v7_at (h : TopTwo (fun e => (val_main_v0 x0 x1 (ix2 t e) : EReal)) a b) (j : Fin 2) :
    (val_main_v7 x0 x1 (ix2 t j) : EReal)
      = Ideal.exp ((val_main_v0 x0 x1 (ix2 t ((![a, b] : Fin 2 → Fin 8) j)) : EReal) - val_main_v0 x0 x1 (ix2 t a)) := by
  unfold val_main_v7 val_main_v6 val_main_v5 val_main_v4 val_main_v3 val_main_v2
  simp only [pointwise]
  refine congrArg Ideal.exp (congrArg₂ (· - ·) (values_at x0 x1 h j) ?_)
  refine Eq.trans (congrArg₂ max (ofBits_bot : _ = ⊥) (v1_at x0 x1 h)) ?_
  exact max_bot_left _

theorem v11_at (h : TopTwo (fun e => (val_main_v0 x0 x1 (ix2 t e) : EReal)) a b)
    (hf : ∀ e, ∃ x : ℝ, (val_main_v0 x0 x1 (ix2 t e) : EReal) = x) (j : Fin 2) :
    (val_main_v11 x0 x1 (ix2 t j) : EReal)
      = Ideal.div ((![1, second (fun e => val_main_v0 x0 x1 (ix2 t e)) a b] : Fin 2 → EReal) j)
          (1 + second (fun e => val_main_v0 x0 x1 (ix2 t e)) a b) := by
  have one : (val_main_v7 x0 x1 (ix2 t (0 : Fin 2)) : EReal) = 1 := by
    rw [v7_at x0 x1 h]
    obtain ⟨x, hx⟩ := hf a
    show Ideal.exp ((val_main_v0 x0 x1 (ix2 t a) : EReal) - val_main_v0 x0 x1 (ix2 t a)) = 1
    rw [hx, ← EReal.coe_sub, sub_self]
    show ((Real.exp 0 : ℝ) : EReal) = 1
    rw [Real.exp_zero, EReal.coe_one]
  have two : (val_main_v7 x0 x1 (ix2 t (1 : Fin 2)) : EReal) = second (fun e => val_main_v0 x0 x1 (ix2 t e)) a b :=
    v7_at x0 x1 h 1
  unfold val_main_v11 val_main_v10 val_main_v9 val_main_v8
  simp only [pointwise]
  refine congrArg₂ Ideal.div ?_ ?_
  · fin_cases j
    · exact one
    · exact two
  · rw [Fin.sum_univ_two]
    refine Eq.trans (congrArg₂ (· + ·) (Ideal.ofBits_zero_f32 : _ = (0:EReal)) (congrArg₂ (· + ·) one two)) ?_
    exact zero_add _

theorem v17_at (h : TopTwo (fun e => (val_main_v0 x0 x1 (ix2 t e) : EReal)) a b) (j : Fin 2) (e : Fin 8) :
    val_main_v17 x0 x1 (ix3 t j e) = BitVec.ofBool (decide (e = (![a, b] : Fin 2 → Fin 8) j)) := by
  unfold val_main_v17 val_main_v16 val_main_v15 val_main_v14 val_main_v13 val_main_v12
  simp only [pointwise]
  refine Eq.trans (congrArg₂ (IntOp.cmpi .eq) (indices_at x0 x1 h j) (show _ = BitVec.ofNat 32 e.val from rfl)) ?_
  rw [cmpi_eq_bit]
  refine congrArg BitVec.ofBool (decide_eq_decide.mpr ?_)
  rw [eq_comm]
  exact ofNat_eq_iff _ _

theorem v18_at (h : TopTwo (fun e => (val_main_v0 x0 x1 (ix2 t e) : EReal)) a b) (e : Fin 8) :
    val_main_v18 x0 x1 (ix2 t e) = BitVec.ofBool (decide (e = a ∨ e = b)) := by
  have h0 := v17_at x0 x1 h 0 e
  have h1 := v17_at x0 x1 h 1 e
  unfold val_main_v18
  simp only [pointwise]
  rw [fold_two]
  refine Eq.trans (congrArg₂ IntOp.ori h0 (congrArg₂ IntOp.ori h1 (show _ = 0#1 from rfl))) ?_
  have key : ∀ p q : Bool, IntOp.ori (BitVec.ofBool p) (IntOp.ori (BitVec.ofBool q) 0#1) = BitVec.ofBool (p || q) := by
    decide
  exact (key _ _).trans (congrArg BitVec.ofBool (Bool.decide_or _ _).symm)

theorem v21_at (h : TopTwo (fun e => (val_main_v0 x0 x1 (ix2 t e) : EReal)) a b)
    (hf : ∀ e, ∃ x : ℝ, (val_main_v0 x0 x1 (ix2 t e) : EReal) = x) (e : Fin 8) :
    (val_main_v21 x0 x1 (ix2 t e) : EReal) = weight (fun e => val_main_v0 x0 x1 (ix2 t e)) a b e := by
  have w (j : Fin 2) : (val_main_v20 x0 x1 (ix3 t j e) : EReal)
      = if e = (![a, b] : Fin 2 → Fin 8) j then (val_main_v11 x0 x1 (ix2 t j) : EReal) else 0 := by
    unfold val_main_v20 val_main_call0_v1 val_main_v19 val_main_call0_v2
    simp only [pointwise]
    rw [v17_at x0 x1 h]
    refine Eq.trans (select_ite _ _ _) (if_congr Iff.rfl rfl ?_)
    exact Ideal.ofBits_zero_f32
  have w0 := w 0
  have w1 := w 1
  rw [v11_at x0 x1 h hf] at w0 w1
  unfold val_main_v21
  simp only [pointwise]
  rw [Fin.sum_univ_two]
  refine Eq.trans (congrArg₂ (· + ·) (Ideal.ofBits_zero_f32 : _ = (0:EReal)) (congrArg₂ (· + ·) w0 w1)) ?_
  rw [zero_add]
  rfl

end Values

end Cert.Moe.Ref

end
-- ==== Proof.RefCount.lean ====
/- The reference's running counts of the tokens an expert is chosen by, and the tokens it keeps. -/
module

public import proofs.«01_k».proof.Proof.RefTop
public import Idealize.ShloMosaic.Lib.Routing.OpsOne

@[expose] public section

noncomputable section

namespace Cert.Moe.Ref

open Cert.ReferenceIdeal Cert.ReferenceIdeal.Gen Cert.ReferenceIdeal.Read
open Idealize.ShloMosaic Cert.Moe

/-- Words that hold naturals add up to the word that holds their sum. -/
theorem sum_words {ι : Type} (s : Finset ι) (f : ι → ℕ) :
    ∑ i ∈ s, BitVec.ofNat 32 (f i) = BitVec.ofNat 32 (∑ i ∈ s, f i) := by
  classical
  induction s using Finset.induction_on with
  | empty => rfl
  | insert i s hi ih => rw [Finset.sum_insert hi, Finset.sum_insert hi, ih, BitVec.ofNat_add]

/-- A bit widened to a word holds zero or one. -/
theorem bit_word (P : Prop) [Decidable P] :
    (BitVec.ofBool (decide P)).setWidth 32 = BitVec.ofNat 32 (if P then 1 else 0) := by
  by_cases h : P
  · rw [decide_eq_true h, if_pos h]; rfl
  · rw [decide_eq_false h, if_neg h]; rfl

variable (x0 : Vec Ideal S1024x1024 .f32) (x1 : Vec Ideal S1024x8 .f32)
variable {I : Inputs} (C : Choice I)

/-- The reference's gates are those of the inputs. -/
def Gated (I : Inputs) : Prop := ∀ t e, (val_main_v0 x0 x1 (ix2 t e) : EReal) = I.gate t e

variable {x0 x1}

theorem Gated.top (h : Gated x0 x1 I) (t : Fin 1024) :
    TopTwo (fun e => (val_main_v0 x0 x1 (ix2 t e) : EReal)) (C.fst t) (C.snd t) := by
  rw [show (fun e => (val_main_v0 x0 x1 (ix2 t e) : EReal)) = I.gate t from funext (h t)]
  exact C.top t

theorem chosen_at (h : Gated x0 x1 I) (t : Fin 1024) (e : Fin 8) :
    val_main_v18 x0 x1 (ix2 t e) = BitVec.ofBool (decide (C.chosen t e)) :=
  v18_at x0 x1 (h.top C t) e

theorem wt_at (h : Gated x0 x1 I) (t : Fin 1024) (e : Fin 8) :
    (val_main_v21 x0 x1 (ix2 t e) : EReal) = C.wt t e := by
  rw [v21_at x0 x1 (h.top C t) (fun e => by rw [h t e]; exact C.fin t e)]
  rw [show (fun e => (val_main_v0 x0 x1 (ix2 t e) : EReal)) = I.gate t from funext (h t)]
  rfl

theorem count_at (h : Gated x0 x1 I) (t : Fin 1024) (e : Fin 8) :
    val_main_v23 x0 x1 (ix2 t e) = BitVec.ofNat 32 (C.count t e) := by
  unfold val_main_v23
  refine (Routing.cumsum_rows_sum (A := 1024) (Am1 := 1023) (N := 8) rfl _ _ rfl _ _ t e).trans ?_
  unfold Choice.count
  rw [← sum_words]
  refine Finset.sum_congr rfl fun s _ => ?_
  by_cases hs : s ≤ t
  · rw [if_pos hs]
    refine (show _ = (val_main_v18 x0 x1 (ix2 s e)).setWidth 32 from rfl).trans ?_
    rw [chosen_at C h, bit_word]
    exact congrArg (BitVec.ofNat 32) (if_congr (and_iff_right hs).symm rfl rfl)
  · rw [if_neg hs, if_neg (fun q => hs q.1)]
    rfl

theorem kept_at (h : Gated x0 x1 I) (t : Fin 1024) (e : Fin 8) :
    val_main_v26 x0 x1 (ix2 t e) = BitVec.ofBool (decide (C.kept t e)) := by
  have hc := C.count_le t e
  refine (show _ = IntOp.andi (val_main_v18 x0 x1 (ix2 t e))
    (IntOp.cmpi .sle (val_main_v23 x0 x1 (ix2 t e)) (BitVec.ofNat 32 320)) from rfl).trans ?_
  rw [chosen_at C h, count_at C h, cmpi_sle_word (by omega) (by omega)]
  have key : ∀ p q : Bool, IntOp.andi (BitVec.ofBool p) (BitVec.ofBool q) = BitVec.ofBool (p && q) := by decide
  exact (key _ _).trans (congrArg BitVec.ofBool (Bool.decide_and _ _).symm)

end Cert.Moe.Ref

end
-- ==== Proof.RefValue.lean ====
/- The reference's result, entry by entry. -/
module

public import proofs.«01_k».proof.Proof.RefCount

@[expose] public section

noncomputable section

namespace Cert.Moe.Ref

open Cert.ReferenceIdeal Cert.ReferenceIdeal.Gen Cert.ReferenceIdeal.Read
open Idealize.ShloMosaic Cert.Moe

variable (x0 : Vec Ideal S1024x1024 .f32) (x1 : Vec Ideal S1024x8 .f32)
variable (x2 : Vec Ideal S8x1024x2048 .f32) (x3 : Vec Ideal S8x2048x1024 .f32)

/-- The whole inputs, as the reference reads them. -/
def inputs : Inputs where
  X t k := x0 (ix2 t k)
  R k e := x1 (ix2 k e)
  W1 e k f := x2 (ix3 e k f)
  W2 e f d := x3 (ix3 e f d)

theorem gated : Gated x0 x1 (inputs x0 x1 x2 x3) := fun t e => by
  unfold val_main_v0
  simp only [pointwise]
  exact zero_add _

theorem hidden_at (e : Fin 8) (t : Fin 1024) (f : Fin 2048) :
    (val_main_v30 x0 x2 (ix3 e t f) : EReal)
      = max (∑ k, (inputs x0 x1 x2 x3).X t k * (inputs x0 x1 x2 x3).W1 e k f) 0 := by
  unfold val_main_v30 val_main_v29 val_main_v28 val_main_v27
  simp only [pointwise]
  refine congrArg₂ max ((zero_add _).trans (Finset.sum_congr rfl fun k _ => ?_)) Ideal.ofBits_zero_f32
  exact mul_comm (x2 (ix3 e k f) : EReal) (x0 (ix2 t k))

theorem ffn_at (e : Fin 8) (t : Fin 1024) (d : Fin 1024) :
    (val_main_v31 x0 x2 x3 (ix3 e t d) : EReal) = (inputs x0 x1 x2 x3).ffn e t d := by
  unfold val_main_v31
  simp only [pointwise]
  refine (zero_add _).trans (Finset.sum_congr rfl fun f _ => ?_)
  exact congrArg (· * (x3 (ix3 e f d) : EReal)) (hidden_at x0 x1 x2 x3 e t f)

variable {x0 x1 x2 x3}

theorem result_at (C : Choice (inputs x0 x1 x2 x3)) (t d : Fin 1024) :
    (val_main_v39 x0 x1 x2 x3 (ix2 t d) : EReal) = C.out t d := by
  have g := gated x0 x1 x2 x3
  have w (e : Fin 8) : (val_main_v38 x0 x1 x2 x3 (ix3 e t d) : EReal)
      = if C.kept t e then C.wt t e * (inputs x0 x1 x2 x3).ffn e t d else 0 := by
    unfold val_main_v38 val_main_call2_v1 val_main_call2_v2 val_main_v37 val_main_v36 val_main_v35 val_main_v34 val_main_v33 val_main_v32
    simp only [pointwise]
    refine Eq.trans (congrArg₂ (fun b y => Scalar.select b y (Ideal.ofBits .f32 0x00000000#32)) (kept_at C g t e)
      (congrArg₂ (fun y z : EReal => y * z) (ffn_at x0 x1 x2 x3 e t d) (wt_at C g t e))) ?_
    rw [select_ite, Ideal.ofBits_zero_f32, mul_comm]
  unfold val_main_v39
  simp only [pointwise]
  refine Eq.trans (congrArg₂ (· + ·) (Ideal.ofBits_zero_f32 : _ = (0:EReal)) (Finset.sum_congr rfl fun e _ => w e)) ?_
  exact zero_add _

end Cert.Moe.Ref

end
-- ==== Proof.Bridge.lean ====
/- From the reference's whole arrays to the devices' blocks of them: what the launch's memory says of the inputs. -/
module

public import proofs.«01_k».proof.Proof.KGates
public import proofs.«01_k».proof.Proof.RefValue
public import Idealize.ShloMosaic.Lib.Layout

@[expose] public section

noncomputable section

namespace Cert.Moe

open Cert.KernelIdeal
open Idealize.ShloMosaic Idealize.ShloMosaic.TcCoe Idealize.SL.Sem

/-- The blocks of a device, by its first coordinate. -/
theorem slab0 (c : Dev nD) : ((Layout.meshBlock [2, 4, 4] ![[0], []] c) 0).val = c.val / 16 := by revert c; decide
theorem slab0' (c : Dev nD) : ((Layout.meshBlock [2, 4, 4] ![[0], []] c) 1).val = 0 := by revert c; decide
theorem slab1 (c : Dev nD) : ((Layout.meshBlock [2, 4, 4] ![[], [0]] c) 1).val = c.val / 16 := by revert c; decide
theorem slab1' (c : Dev nD) : ((Layout.meshBlock [2, 4, 4] ![[], [0]] c) 0).val = 0 := by revert c; decide
theorem slab2 (c : Dev nD) : ((Layout.meshBlock [2, 4, 4] ![[0], [], []] c) 0).val = c.val / 16 := by revert c; decide
theorem slab2' (c : Dev nD) : ((Layout.meshBlock [2, 4, 4] ![[0], [], []] c) 1).val = 0 := by revert c; decide
theorem slab2'' (c : Dev nD) : ((Layout.meshBlock [2, 4, 4] ![[0], [], []] c) 2).val = 0 := by revert c; decide

/-- A device's rows of an array of tokens. -/
theorem rows_block {α : Type} (v : (⟨2, ![1024, 1024]⟩ : Shape).Idx → α) (c : Dev nD) (i : Fin 512) (k : Fin 1024) :
    Layout.blockN ⟨2, ![512, 1024]⟩ ⟨2, ![1024, 1024]⟩ (Layout.meshBlock [2, 4, 4] ![[0], []] c) v (by decide) (ix2 i k)
      = v (ix2 (tok (half c) i) k) := by
  refine congrArg v (funext fun a => Fin.ext ?_)
  rw [Layout.TilesN.idx_val]
  match a with
  | ⟨0, _⟩ =>
    show ((Layout.meshBlock [2, 4, 4] ![[0], []] c) 0).val * 512 + i.val = 512 * (c.val / 16) + i.val
    rw [slab0, Nat.mul_comm]
  | ⟨1, _⟩ =>
    show ((Layout.meshBlock [2, 4, 4] ![[0], []] c) 1).val * 1024 + k.val = k.val
    rw [slab0', Nat.zero_mul, Nat.zero_add]

/-- A device's columns of the router. -/
theorem cols_block (v : (⟨2, ![1024, 8]⟩ : Shape).Idx → EReal) (c : Dev nD) (k : Fin 1024) (e : Fin 4) :
    Layout.blockN ⟨2, ![1024, 4]⟩ ⟨2, ![1024, 8]⟩ (Layout.meshBlock [2, 4, 4] ![[], [0]] c) v (by decide) (ix2 k e)
      = v (ix2 k (exp8 (half c) e)) := by
  refine congrArg v (funext fun a => Fin.ext ?_)
  rw [Layout.TilesN.idx_val]
  match a with
  | ⟨0, _⟩ =>
    show ((Layout.meshBlock [2, 4, 4] ![[], [0]] c) 0).val * 1024 + k.val = k.val
    rw [slab1', Nat.zero_mul, Nat.zero_add]
  | ⟨1, _⟩ =>
    show ((Layout.meshBlock [2, 4, 4] ![[], [0]] c) 1).val * 4 + e.val = 4 * (c.val / 16) + e.val
    rw [slab1, Nat.mul_comm]

/-- A device's experts of a stack of eight. -/
theorem slabs_block {p q : ℕ} (v : (⟨3, ![8, p, q]⟩ : Shape).Idx → EReal) (c : Dev nD)
    (h : Layout.TilesN ⟨3, ![4, p, q]⟩ ⟨3, ![8, p, q]⟩ fun b => Layout.cutSize [2, 4, 4] ((![[0], [], []] : Fin 3 → List ℕ) b))
    (e : Fin 4) (k : Fin p) (f : Fin q) :
    Layout.blockN ⟨3, ![4, p, q]⟩ ⟨3, ![8, p, q]⟩ (Layout.meshBlock [2, 4, 4] ![[0], [], []] c) v h (ix3 e k f)
      = v (ix3 (exp8 (half c) e) k f) := by
  refine congrArg v (funext fun a => Fin.ext ?_)
  rw [Layout.TilesN.idx_val]
  match a with
  | ⟨0, _⟩ =>
    show ((Layout.meshBlock [2, 4, 4] ![[0], [], []] c) 0).val * 4 + e.val = 4 * (c.val / 16) + e.val
    rw [slab2, Nat.mul_comm]
  | ⟨1, _⟩ =>
    show ((Layout.meshBlock [2, 4, 4] ![[0], [], []] c) 1).val * p + k.val = k.val
    rw [slab2', Nat.zero_mul, Nat.zero_add]
  | ⟨2, _⟩ =>
    show ((Layout.meshBlock [2, 4, 4] ![[0], [], []] c) 2).val * q + f.val = f.val
    rw [slab2'', Nat.zero_mul, Nat.zero_add]

/-! ## The launch -/

variable (m : (ℓ : Loc nD τ sig) → Buf (Elt Ideal) ℓ)
variable (x0 : Vec Ideal ⟨2, ![1024, 1024]⟩ .f32) (x1 : Vec Ideal ⟨2, ![1024, 8]⟩ .f32)
variable (x2 : Vec Ideal ⟨3, ![8, 1024, 2048]⟩ .f32) (x3 : Vec Ideal ⟨3, ![8, 2048, 1024]⟩ .f32)

/-- Every device holds its blocks of the four whole arrays. -/
def Cut : Prop := ∀ c : Dev nD,
  m ((c : Thread nD τ).loc main_arg0) = Layout.blockN ⟨2, ![512, 1024]⟩ ⟨2, ![1024, 1024]⟩ (Layout.meshBlock [2, 4, 4] ![[0], []] c) x0
  ∧ m ((c : Thread nD τ).loc main_arg1) = Layout.blockN ⟨2, ![1024, 4]⟩ ⟨2, ![1024, 8]⟩ (Layout.meshBlock [2, 4, 4] ![[], [0]] c) x1
  ∧ m ((c : Thread nD τ).loc main_arg2) = Layout.blockN ⟨3, ![4, 1024, 2048]⟩ ⟨3, ![8, 1024, 2048]⟩ (Layout.meshBlock [2, 4, 4] ![[0], [], []] c) x2
  ∧ m ((c : Thread nD τ).loc main_arg3) = Layout.blockN ⟨3, ![4, 2048, 1024]⟩ ⟨3, ![8, 2048, 1024]⟩ (Layout.meshBlock [2, 4, 4] ![[0], [], []] c) x3

variable {m x0 x1 x2 x3}

theorem Cut.shards (h : Cut m x0 x1 x2 x3) : Shards m (Ref.inputs x0 x1 x2 x3) where
  x c i k := (congrFun (h c).1 (ix2 i k)).trans (rows_block x0 c i k)
  r c k e := (congrFun (h c).2.1 (ix2 k e)).trans (cols_block x1 c k e)
  w1 c e k f := (congrFun (h c).2.2.1 (ix3 e k f)).trans (slabs_block x2 c _ e k f)
  w2 c e f d := (congrFun (h c).2.2.2 (ix3 e f d)).trans (slabs_block x3 c _ e f d)

/-- Every token and every expert is some device's. -/
theorem tok_onto (t : Fin 1024) : ∃ (c : Dev nD) (i : Fin 512), tok (half c) i = t := by
  by_cases h : t.val < 512
  · exact ⟨(⟨0, by decide⟩ : Fin 32), ⟨t.val, h⟩, Fin.ext (by show 512 * (0 / 16) + t.val = t.val; omega)⟩
  · exact ⟨(⟨16, by decide⟩ : Fin 32), ⟨t.val - 512, by omega⟩, Fin.ext (by show 512 * (16 / 16) + (t.val - 512) = t.val; omega)⟩

theorem exp_onto (e : Fin 8) : ∃ (c : Dev nD) (i : Fin 4), exp8 (half c) i = e := by
  by_cases h : e.val < 4
  · exact ⟨(⟨0, by decide⟩ : Fin 32), ⟨e.val, h⟩, Fin.ext (by show 4 * (0 / 16) + e.val = e.val; omega)⟩
  · exact ⟨(⟨16, by decide⟩ : Fin 32), ⟨e.val - 4, by omega⟩, Fin.ext (by show 4 * (16 / 16) + (e.val - 4) = e.val; omega)⟩

/-- Products and sums of reals are real. -/
theorem real_sum {I : Inputs} (hX : ∀ t k, ∃ r : ℝ, I.X t k = r) (hR : ∀ k e, ∃ r : ℝ, I.R k e = r) (t : Fin 1024) (e : Fin 8) :
    ∃ r : ℝ, I.gate t e = r := by
  choose a ha using hX
  choose b hb using hR
  refine ⟨∑ k, a t k * b k e, ?_⟩
  unfold Inputs.gate
  rw [coe_sum]
  exact Finset.sum_congr rfl fun k _ => by rw [ha, hb, EReal.coe_mul]

/-- With real gates, every token has its two greatest. -/
theorem choice {I : Inputs} (h : ∀ t e, ∃ r : ℝ, I.gate t e = r) : Nonempty (Choice I) := by
  choose a b hab using fun t => exists_topTwo (I.gate t)
  exact ⟨⟨a, b, hab, h⟩⟩

end Cert.Moe

end
-- ==== Proof.Finite.lean ====
/- What the precondition says: no entry of a device's tokens or router columns is infinite. -/
module

public import proofs.«01_k».proof.Defs
public import Idealize.ShloMosaic.Lib.Pointwise

@[expose] public section

noncomputable section

namespace Cert.Moe

open Idealize.ShloMosaic

/-- A conjunction of bits that holds has every bit set. -/
theorem all_bits {ι : Type} (g : ι → BitVec 1) (l : List ι) (v : BitVec 1)
    (h : l.foldl (fun r n => IntOp.andi r (g n)) v = 1#1) : v = 1#1 ∧ ∀ n ∈ l, g n = 1#1 := by
  induction l generalizing v with
  | nil => exact ⟨h, fun n hn => absurd hn (List.not_mem_nil)⟩
  | cons a l ih =>
    obtain ⟨h1, h2⟩ := ih _ h
    have key : ∀ p q : BitVec 1, IntOp.andi p q = 1#1 → p = 1#1 ∧ q = 1#1 := by decide
    refine ⟨(key _ _ h1).1, fun n hn => ?_⟩
    rcases List.mem_cons.mp hn with rfl | hn
    · exact (key _ _ h1).2
    · exact h2 n hn

/-- The same of the conjunction of a whole array. -/
theorem all_entries {s u : Shape} {axes : List (Fin s.rank)} (x : s.Idx → BitVec 1) (v : u.Idx → BitVec 1)
    (h : s.ReducesTo axes ⟨0, ![]⟩) (hu : 0 < u.numel) (j : (⟨0, ![]⟩ : Shape).Idx) (e : Host.reduce IntOp.andi x v h hu j = 1#1) (i : s.Idx) : x i = 1#1 := by
  unfold Host.reduce at e
  have := (all_bits _ _ _ e).2 (s.rowMajor i) (List.mem_filter.mpr ⟨List.mem_finRange _, decide_eq_true (funext fun a => a.elim0)⟩)
  rwa [Equiv.symm_apply_apply] at this

theorem ofBits_top : FloatOps.ofBits (F := Ideal) .f32 0x7F800000#32 = (⊤ : EReal) := by
  show Ideal.ofBits .f32 0x7F800000#32 = ⊤
  simp [Ideal.ofBits, Ideal.ieee]

/-- An extended real whose magnitude is below infinity is a real. -/
theorem real_of_bit (x : EReal) (h : FloatOps.cmpf (F := Ideal) (φ := .f32) .olt (FloatOps.absf (F := Ideal) (φ := .f32) x) (⊤ : EReal) = 1#1) :
    ∃ r : ℝ, x = r := by
  have h' : BitVec.ofBool (decide (max x (-x) < ⊤)) = 1#1 := h
  induction x with
  | bot => simp at h'
  | top => simp at h'
  | coe r => exact ⟨r, rfl⟩

variable [Cert.Pre_finite_gate_inputs_KernelIdeal.Facts]

theorem real_entries (a : Vec Ideal ⟨2, ![512, 1024]⟩ .f32) (b : Vec Ideal ⟨2, ![1024, 4]⟩ .f32)
    (w : Vec Ideal ⟨3, ![4, 1024, 2048]⟩ .f32) (v : Vec Ideal ⟨3, ![4, 2048, 1024]⟩ .f32)
    (h : (Cert.Pre_finite_gate_inputs_KernelIdeal.fn (F := Ideal) a b w v).1 = (fun _ => 1#1)
      ∧ (Cert.Pre_finite_gate_inputs_KernelIdeal.fn (F := Ideal) a b w v).2 = (fun _ => 1#1)) :
    (∀ i, ∃ r : ℝ, (a i : EReal) = r) ∧ (∀ i, ∃ r : ℝ, (b i : EReal) = r) := by
  have e0 := h.1
  have e1 := h.2
  unfold Cert.Pre_finite_gate_inputs_KernelIdeal.fn at e0 e1
  dsimp only at e0 e1
  refine ⟨fun i => ?_, fun i => ?_⟩
  · have e := all_entries _ _ _ _ _ (congrFun e0 ix0) i
    refine real_of_bit _ (Eq.trans ?_ e)
    rw [← ofBits_top]
    rfl
  · have e := all_entries _ _ _ _ _ (congrFun e1 ix0) i
    refine real_of_bit _ (Eq.trans ?_ e)
    rw [← ofBits_top]
    rfl

end Cert.Moe

end
-- ==== Proof.Value.lean ====
/- The value claim: from finite tokens and router, every device's result is its rows of the reference's result. -/
module

public import proofs.«01_k».proof.Defs
public import proofs.«01_k».proof.Proof.Run
public import proofs.«01_k».proof.Proof.KOut
public import proofs.«01_k».proof.Proof.Bridge
public import proofs.«01_k».proof.Proof.Finite
public import proofs.«01_k».proof.Proof.Gen.ReferenceIdeal.Run

@[expose] public section

noncomputable section

namespace Cert.Moe

open Cert.KernelIdeal Cert.KernelIdeal.Gen
open Idealize.ShloMosaic Idealize.ShloMosaic.TcCoe Idealize.SL.Sem
open Idealize.ShloMosaic.Pipeline (Dat)

/-- The result array ends holding what the body left in the result's one window. -/
theorem final_o {F : FTy → Type} [FloatOps F] [Named F] (m : (ℓ : Loc nD τ sig) → Buf (Elt F) ℓ) (ρ : Dev nD → PrngReg) (c : Dev nD) :
    finalA m ρ c (2 : Fin 3) = outAt m c := by
  have h : (win0_2.blk t0_0).view.read (Elt F) (finalA m ρ c (2 : Fin 3)) = outAt m c := by
    unfold finalA
    rw [show cfg0.N = (t0_0 : Fin cfg0.N).val + 1 from rfl, (dats m ρ 0 c).arrAt_succ (2 : Fin 3) t0_0]
    rw [show (cfg0.win (2 : Fin 3)).flush t0_0 = true from by decide, if_pos rfl]
    exact View.read_write_univ _ _
  have hz : (fun a => (win0_2.index t0_0) a * main_v1.ty.shape.size a) = fun _ => 0 := funext fun a => by fin_cases a <;> decide
  exact (Memref.read_access_unit_zero (Elt F) main_v1 hz (fun a => by fin_cases a <;> decide) _).symm.trans h

section Result

variable [Cert.Pre_finite_gate_inputs_KernelIdeal.Facts]
variable {m : (ℓ : Loc nD τ sig) → Buf (Elt Ideal) ℓ}
variable {x0 : Vec Ideal ⟨2, ![1024, 1024]⟩ .f32} {x1 : Vec Ideal ⟨2, ![1024, 8]⟩ .f32}
variable {x2 : Vec Ideal ⟨3, ![8, 1024, 2048]⟩ .f32} {x3 : Vec Ideal ⟨3, ![8, 2048, 1024]⟩ .f32}

/-- With finite entries on every device, every gate is real. -/
theorem real_gates (hp : Cert.Pre_KernelIdeal_finite_gate_inputs_KernelIdeal m) (h : Cut m x0 x1 x2 x3) (t : Fin 1024) (e : Fin 8) :
    ∃ r : ℝ, (Ref.inputs x0 x1 x2 x3).gate t e = r := by
  have S := h.shards
  refine real_sum (fun t k => ?_) (fun k e => ?_) t e
  · obtain ⟨c, i, rfl⟩ := tok_onto t
    obtain ⟨r, hr⟩ := (real_entries _ _ _ _ (hp c)).1 (ix2 i k)
    exact ⟨r, (S.x c i k).symm.trans hr⟩
  · obtain ⟨c, i, rfl⟩ := exp_onto e
    obtain ⟨r, hr⟩ := (real_entries _ _ _ _ (hp c)).2 (ix2 k i)
    exact ⟨r, (S.r c k i).symm.trans hr⟩

/-- A device's result is its rows of the reference's. -/
theorem result_block (hp : Cert.Pre_KernelIdeal_finite_gate_inputs_KernelIdeal m) (h : Cut m x0 x1 x2 x3) (c : Dev nD) :
    outAt m c = Layout.blockN ⟨2, ![512, 1024]⟩ ⟨2, ![1024, 1024]⟩ (Layout.meshBlock [2, 4, 4] ![[0], []] c)
      (Cert.ReferenceIdeal.Read.val_main_v39 (F := Ideal) x0 x1 x2 x3) := by
  obtain ⟨C⟩ := choice (real_gates hp h)
  funext i
  obtain ⟨r, d, rfl⟩ : ∃ (r : Fin 512) (d : Fin 1024), i = ix2 r d := ⟨i 0, i 1, funext fun a => by fin_cases a <;> rfl⟩
  exact (out_at C h.shards c r d).trans ((Ref.result_at C _ d).symm.trans (rows_block _ c r d).symm)

theorem algebraic : Cert.algebraic_KernelIdeal_ReferenceIdeal_pre_finite_gate_inputs_KernelIdeal := by
  intro m ρ m' ρ' hp hcut
  refine ⟨Cert.ReferenceIdeal.Value.res_main_v39 m' 0, ?_, (θ_run Cert.ReferenceIdeal.defs _ _).mono (fun _ h => h 0)
    (Cert.ReferenceIdeal.Value.run (F := Ideal) m' ρ')⟩
  rw [Cert.ReferenceIdeal.Read.val_main_v39_eq]
  refine (θ_run defs _ _).mono (fun r h c => ⟨?_, ?_, ?_, (h.1 c).2.1, (h.1 c).2.2⟩) (run_main (F := Ideal) m ρ)
  · exact ((h.1 c).1 (2 : Fin 3)).trans ((final_o m ρ c).trans (result_block hp hcut c))
  · exact ((h.1 c).1 (0 : Fin 3)).trans (final_x m ρ c)
  · exact ((h.1 c).1 (1 : Fin 3)).trans (final_r m ρ c)

end Result

end Cert.Moe

end
-- ==== Proof.Uncapped.lean ====
/- The reference without the capacity rule, entry by entry, and the mask that selects the rows where the rule drops nothing. -/
module

public import proofs.«01_k».proof.Defs
public import proofs.«01_k».proof.Proof.RefValue
public import proofs.«01_k».proof.Proof.Finite
public import proofs.«01_k».proof.Proof.Gen.UncappedIdeal.Run
public import proofs.«01_k».proof.Proof.Gen.UncappedIdeal.Read
public import Idealize.ShloMosaic.Lib.Quiescent

@[expose] public section

noncomputable section

namespace Cert.Moe

/-! ## The specification without capacity -/

section Plain

variable {I : Inputs} (C : Choice I)

/-- The weighted sum over all experts, none dropped. -/
def Choice.plain (t d : Fin 1024) : EReal := ∑ e : Fin 8, I.ffn e t d * C.wt t e

/-- An expert that a token has not chosen has weight zero. -/
theorem Choice.wt_zero {t : Fin 1024} {e : Fin 8} (h : ¬ C.chosen t e) : C.wt t e = 0 := by
  unfold Choice.chosen at h
  unfold Choice.wt weight
  rw [if_neg (fun q => h (Or.inl q)), if_neg (fun q => h (Or.inr q)), add_zero]

/-- Where no chosen expert is over its capacity, the capacity rule changes nothing. -/
theorem Choice.out_eq_plain {t : Fin 1024} (h : ∀ e, C.chosen t e → C.count t e ≤ 320) (d : Fin 1024) :
    C.out t d = C.plain t d := by
  unfold Choice.out Choice.plain
  refine Finset.sum_congr rfl fun e _ => ?_
  by_cases hc : C.chosen t e
  · rw [if_pos ⟨hc, h e hc⟩, mul_comm]
  · rw [if_neg (fun q => hc q.1), C.wt_zero hc, mul_zero]

end Plain

namespace Unc

open Idealize.ShloMosaic Idealize.SL.Sem

/-! ## The frame -/

section Frame

open Cert.UncappedIdeal

theorem frame [Cert.Pre_finite_gate_inputs_ReferenceIdeal.Facts] : Cert.quiescent_UncappedIdeal := fun m ρ _ =>
  (θ_run defs _ _).mono (fun r h => ⟨fun c => (h c).2, sem_eq_zero_of_no_sems (by decide) r.2⟩)
    (Cert.UncappedIdeal.Value.run (F := Ideal) m ρ)

end Frame

/-! ## The result -/

variable {x0 : Vec Ideal ⟨2, ![1024, 1024]⟩ .f32} {x1 : Vec Ideal ⟨2, ![1024, 8]⟩ .f32}
variable {x2 : Vec Ideal ⟨3, ![8, 1024, 2048]⟩ .f32} {x3 : Vec Ideal ⟨3, ![8, 2048, 1024]⟩ .f32}

/-- Both references weigh the experts alike. -/
theorem wt_same : Cert.UncappedIdeal.Read.val_main_v20 (F := Ideal) x0 x1 = Cert.ReferenceIdeal.Read.val_main_v21 (F := Ideal) x0 x1 := rfl

/-- Both references take the experts' products alike. -/
theorem ffn_same : Cert.UncappedIdeal.Read.val_main_v25 (F := Ideal) x0 x2 x3 = Cert.ReferenceIdeal.Read.val_main_v31 (F := Ideal) x0 x2 x3 := rfl

theorem result_at (C : Choice (Ref.inputs x0 x1 x2 x3)) (t d : Fin 1024) :
    (Cert.UncappedIdeal.Read.val_main_v30 (F := Ideal) x0 x1 x2 x3 (ix2 t d) : EReal) = C.plain t d := by
  have w (e : Fin 8) : (Cert.UncappedIdeal.Read.val_main_v29 (F := Ideal) x0 x1 x2 x3 (ix3 e t d) : EReal)
      = (Ref.inputs x0 x1 x2 x3).ffn e t d * C.wt t e := by
    unfold Cert.UncappedIdeal.Read.val_main_v29 Cert.UncappedIdeal.Read.val_main_v28
      Cert.UncappedIdeal.Read.val_main_v27 Cert.UncappedIdeal.Read.val_main_v26
    rw [wt_same, ffn_same]
    simp only [pointwise]
    exact congrArg₂ (fun y z : EReal => y * z) (Ref.ffn_at x0 x1 x2 x3 e t d) (Ref.wt_at C (Ref.gated x0 x1 x2 x3) t e)
  unfold Cert.UncappedIdeal.Read.val_main_v30
  simp only [pointwise]
  refine Eq.trans (congrArg₂ (· + ·) (Ideal.ofBits_zero_f32 : _ = (0:EReal)) (Finset.sum_congr rfl fun e _ => w e)) ?_
  exact zero_add _

/-! ## The mask -/

variable [Cert.On_within_capacity.Facts]

/-- A conjunction over part of an array's axes that holds has every bit above its place set. -/
theorem entries_above {s t u : Shape} {axes : List (Fin s.rank)} (x : s.Idx → BitVec 1) (v : u.Idx → BitVec 1)
    (h : s.ReducesTo axes t) (hu : 0 < u.numel) (j : t.Idx) (e : Host.reduce IntOp.andi x v h hu j = 1#1)
    (i : s.Idx) (hi : h.drop i = j) : x i = 1#1 := by
  unfold Host.reduce at e
  have := (all_bits _ _ _ e).2 (s.rowMajor i)
    (List.mem_filter.mpr ⟨List.mem_finRange _, decide_eq_true (by rw [Equiv.symm_apply_apply]; exact hi)⟩)
  rwa [Equiv.symm_apply_apply] at this

/-- In a row that the mask selects, no expert that the token has chosen is over its capacity. -/
theorem within (C : Choice (Ref.inputs x0 x1 x2 x3)) (t d : Fin 1024)
    (h : Cert.On_within_capacity.fn (F := Ideal) x0 x1 x2 x3 (ix2 t d) = 1#1) (e : Fin 8) (hc : C.chosen t e) :
    C.count t e ≤ 320 := by
  unfold Cert.On_within_capacity.fn at h
  dsimp only at h
  have g := Ref.gated x0 x1 x2 x3
  have b := entries_above _ _ _ _ _ h (ix2 t e) (by funext a; fin_cases a; rfl)
  have b' : IntOp.ori (IntOp.cmpi .sle (Cert.ReferenceIdeal.Read.val_main_v23 (F := Ideal) x0 x1 (ix2 t e)) (BitVec.ofNat 32 320))
      (~~~ (Cert.ReferenceIdeal.Read.val_main_v18 (F := Ideal) x0 x1 (ix2 t e))) = 1#1 := b
  have hn := C.count_le t e
  rw [Ref.chosen_at C g, Ref.count_at C g, decide_eq_true hc, cmpi_sle_word (by omega) (by omega)] at b'
  by_contra hk
  rw [decide_eq_false hk] at b'
  exact absurd b' (by decide)

end Unc

end Cert.Moe

end
-- ==== Proof.ValuePlain.lean ====
/- The second value claim: in the rows where no chosen expert is over its capacity, every device's result is its rows of the
   reference without the capacity rule. -/
module

public import proofs.«01_k».proof.Proof.Value
public import proofs.«01_k».proof.Proof.Uncapped

@[expose] public section

noncomputable section

namespace Cert.Moe

open Cert.KernelIdeal Cert.KernelIdeal.Gen
open Idealize.ShloMosaic Idealize.ShloMosaic.TcCoe Idealize.SL.Sem

variable [Cert.Pre_finite_gate_inputs_KernelIdeal.Facts] [Cert.On_within_capacity.Facts]
variable {m : (ℓ : Loc nD τ sig) → Buf (Elt Ideal) ℓ}
variable {x0 : Vec Ideal ⟨2, ![1024, 1024]⟩ .f32} {x1 : Vec Ideal ⟨2, ![1024, 8]⟩ .f32}
variable {x2 : Vec Ideal ⟨3, ![8, 1024, 2048]⟩ .f32} {x3 : Vec Ideal ⟨3, ![8, 2048, 1024]⟩ .f32}

/-- A device's entry in a selected row is that of the reference without capacity. -/
theorem plain_entry (hp : Cert.Pre_KernelIdeal_finite_gate_inputs_KernelIdeal m) (h : Cut m x0 x1 x2 x3) (c : Dev nD)
    (i : (⟨2, ![512, 1024]⟩ : Shape).Idx)
    (hi : Layout.blockN ⟨2, ![512, 1024]⟩ ⟨2, ![1024, 1024]⟩ (Layout.meshBlock [2, 4, 4] ![[0], []] c)
      (Cert.On_within_capacity.fn (F := Ideal) x0 x1 x2 x3) (by decide +revert) i = 1#1) :
    outAt m c i = Layout.blockN ⟨2, ![512, 1024]⟩ ⟨2, ![1024, 1024]⟩ (Layout.meshBlock [2, 4, 4] ![[0], []] c)
      (Cert.UncappedIdeal.Read.val_main_v30 (F := Ideal) x0 x1 x2 x3) (by decide +revert) i := by
  obtain ⟨C⟩ := choice (real_gates hp h)
  obtain ⟨r, d, rfl⟩ : ∃ (r : Fin 512) (d : Fin 1024), i = ix2 r d := ⟨i 0, i 1, funext fun a => by fin_cases a <;> rfl⟩
  have hw := Unc.within C _ d ((rows_block (Cert.On_within_capacity.fn (F := Ideal) x0 x1 x2 x3) c r d).symm.trans hi)
  exact (out_at C h.shards c r d).trans
    ((C.out_eq_plain hw d).trans ((Unc.result_at C _ d).symm.trans (rows_block _ c r d).symm))

theorem algebraic_plain : Cert.algebraic_KernelIdeal_UncappedIdeal_on_within_capacity_pre_finite_gate_inputs_KernelIdeal := by
  intro m ρ m' ρ' hp hcut
  refine ⟨Cert.UncappedIdeal.Read.val_main_v30 (F := Ideal)
    (m' (((0 : Dev Cert.UncappedIdeal.nD).tc : Thread Cert.UncappedIdeal.nD Cert.UncappedIdeal.τ).loc Cert.UncappedIdeal.main_arg0))
    (m' (((0 : Dev Cert.UncappedIdeal.nD).tc : Thread Cert.UncappedIdeal.nD Cert.UncappedIdeal.τ).loc Cert.UncappedIdeal.main_arg1))
    (m' (((0 : Dev Cert.UncappedIdeal.nD).tc : Thread Cert.UncappedIdeal.nD Cert.UncappedIdeal.τ).loc Cert.UncappedIdeal.main_arg2))
    (m' (((0 : Dev Cert.UncappedIdeal.nD).tc : Thread Cert.UncappedIdeal.nD Cert.UncappedIdeal.τ).loc Cert.UncappedIdeal.main_arg3)), ?_,
    (θ_run Cert.UncappedIdeal.defs _ _).mono
      (fun _ h => ⟨fun i _ => congrFun ((h 0).1.trans (Cert.UncappedIdeal.Read.val_main_v30_eq _ _ _ _)) i, (h 0).2⟩)
      (Cert.UncappedIdeal.Value.run (F := Ideal) m' ρ')⟩
  refine (θ_run defs _ _).mono (fun r h c => ⟨fun i hi => ?_, ?_, ?_, (h.1 c).2.1, (h.1 c).2.2⟩) (run_main (F := Ideal) m ρ)
  · exact (congrFun (((h.1 c).1 (2 : Fin 3)).trans (final_o m ρ c)) i).trans (plain_entry hp hcut c i hi)
  · exact ((h.1 c).1 (0 : Fin 3)).trans (final_x m ρ c)
  · exact ((h.1 c).1 (1 : Fin 3)).trans (final_r m ρ c)

end Cert.Moe

end
-- ==== Proof.lean ====
/- The claims, assembled: each conjunct is a theorem of the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.UncappedIdeal
public import proofs.«01_k».proof.Proof.Gen.UncappedIdeal.Run
public import proofs.«01_k».proof.Proof.Gen.UncappedIdeal.Read
public import proofs.«01_k».proof.Proof.Frames
public import proofs.«01_k».proof.Proof.FrameRef
public import proofs.«01_k».proof.Proof.Value
public import proofs.«01_k».proof.Proof.Uncapped
public import proofs.«01_k».proof.Proof.ValuePlain
public import Idealize.ShloMosaic.Adequacy
public import Idealize.ShloMosaic.Init

@[expose] public section

noncomputable section

namespace Cert.Proof

open Idealize.ShloMosaic Idealize.SL.Sem

/-- The side conditions of the precondition, over the devices' blocks and over the whole arrays. -/
theorem pre_blocks : Cert.Pre_finite_gate_inputs_KernelIdeal.Facts :=
  ⟨by decide, by decide, by decide, by decide, by decide⟩
theorem pre_whole : Cert.Pre_finite_gate_inputs_ReferenceIdeal.Facts :=
  ⟨by decide, by decide, by decide, by decide, by decide⟩

/-- The side conditions of the mask. -/
theorem mask_whole : Cert.On_within_capacity.Facts :=
  ⟨by decide, by decide, by decide, by decide, by decide, by decide, by decide, by decide, by decide, by decide, by decide,
    by decide, by decide, by decide, by decide⟩

theorem claim : Cert.Claim := ⟨Cert.Kernel.Gen.facts, Cert.KernelIdeal.Gen.facts, Cert.ReferenceIdeal.Gen.facts,
  Cert.UncappedIdeal.Gen.facts, pre_blocks, pre_whole, mask_whole,
  Cert.Moe.frame_bits, Cert.Moe.frame_ideal, @Cert.Moe.frame_ideal_pre pre_blocks, Cert.Moe.frame_ref, @Cert.Moe.frame_ref_pre pre_whole,
  @Cert.Moe.Unc.frame pre_whole, Cert.Moe.preserved, @Cert.Moe.algebraic pre_blocks, @Cert.Moe.algebraic_plain pre_blocks mask_whole⟩

end Cert.Proof

end
